-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![64, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![8192, 1024]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![8192, 1024]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![8192, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![1024, 8192]⟩ 1 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![1024, 8192]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![1024, 8192]⟩ 1 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![64, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S12x64x512 : Shape := ⟨3, ![12, 64, 512]⟩
abbrev S3x512x1024 : Shape := ⟨3, ![3, 512, 1024]⟩
abbrev S3x1024x512 : Shape := ⟨3, ![3, 1024, 512]⟩
abbrev S12 : Shape := ⟨1, ![12]⟩
abbrev S3 : Shape := ⟨1, ![3]⟩
abbrev S_ : Shape := ⟨0, ![]⟩
abbrev S1 : Shape := ⟨1, ![1]⟩
abbrev S1x512x1024 : Shape := ⟨3, ![1, 512, 1024]⟩
abbrev S1x1024x512 : Shape := ⟨3, ![1, 1024, 512]⟩
abbrev S512x512 : Shape := ⟨2, ![512, 512]⟩
abbrev S1x64x512 : Shape := ⟨3, ![1, 64, 512]⟩

abbrev nBuf : Space → Nat
  | .hbm => 8
  | .vmem => 8
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S64x512, .f32⟩
  | .local _ .vmem, ⟨0, _⟩ => ⟨S64x512, .f32⟩
  | .local _ .vmem, ⟨1, _⟩ => ⟨S64x512, .f32⟩
  | .local _ .vmem, ⟨2, _⟩ => ⟨S12x64x512, .bf16⟩
  | .local _ .vmem, ⟨3, _⟩ => ⟨S12x64x512, .bf16⟩
  | .local _ .vmem, ⟨4, _⟩ => ⟨S12x64x512, .bf16⟩
  | .local _ .vmem, ⟨5, _⟩ => ⟨S12x64x512, .bf16⟩
  | .local _ .vmem, ⟨6, _⟩ => ⟨S3x512x1024, .f32⟩
  | .local _ .vmem, ⟨7, _⟩ => ⟨S3x1024x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_2 : BitVec 32 := 1#32
  let v8 : BitVec 32 := Scalar.muli v3 c1_i32_2
  let v9 : BitVec 32 := Scalar.addi c0_i32 v8
  v9.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_4 : BitVec 32 := 1#32
  let v10 : BitVec 32 := Scalar.muli v4 c1_i32_4
  let v11 : BitVec 32 := Scalar.addi c0_i32_5 v10
  v11.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_7 : BitVec 32 := 1#32
  let v12 : BitVec 32 := Scalar.muli v5 c1_i32_7
  let v13 : BitVec 32 := Scalar.addi c0_i32_8 v12
  v13.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_10 : BitVec 32 := 1#32
  let v14 : BitVec 32 := Scalar.muli v6 c1_i32_10
  let v15 : BitVec 32 := Scalar.addi c0_i32_11 v14
  v15.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_51 : BitVec 32 := 1#32
  let v56 : BitVec 32 := Scalar.muli v3 c1_i32_51
  let v57 : BitVec 32 := Scalar.addi c0_i32_52 v56
  v57.toNat
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_65 : BitVec 32 := 1#32
  let v72 : BitVec 32 := Scalar.muli v3 c1_i32_65
  let v73 : BitVec 32 := Scalar.addi c0_i32_66 v72
  v73.toNat
def k0_dev7 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_100 : BitVec 32 := 1#32
  let v105 : BitVec 32 := Scalar.muli v4 c1_i32_100
  let v106 : BitVec 32 := Scalar.addi c0_i32_101 v105
  v106.toNat
def k0_dev8 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_129 : BitVec 32 := 1#32
  let v131 : BitVec 32 := Scalar.muli v4 c1_i32_129
  let v132 : BitVec 32 := Scalar.addi c0_i32_130 v131
  v132.toNat
def k0_dev9 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_157 : BitVec 32 := 1#32
  let v157 : BitVec 32 := Scalar.muli v5 c1_i32_157
  let v158 : BitVec 32 := Scalar.addi c0_i32_158 v157
  v158.toNat
def k0_dev10 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_186 : BitVec 32 := 1#32
  let v183 : BitVec 32 := Scalar.muli v5 c1_i32_186
  let v184 : BitVec 32 := Scalar.addi c0_i32_187 v183
  v184.toNat
def k0_dev11 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_214 : BitVec 32 := 1#32
  let v209 : BitVec 32 := Scalar.muli v6 c1_i32_214
  let v210 : BitVec 32 := Scalar.addi c0_i32_215 v209
  v210.toNat
def k0_dev12 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_243 : BitVec 32 := 1#32
  let v235 : BitVec 32 := Scalar.muli v6 c1_i32_243
  let v236 : BitVec 32 := Scalar.addi c0_i32_244 v235
  v236.toNat
def k0_dev13 (d0 : Dev nD) : Nat :=
  let c0_i32_300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_299 : BitVec 32 := 1#32
  let v294 : BitVec 32 := Scalar.muli v3 c1_i32_299
  let v295 : BitVec 32 := Scalar.addi c0_i32_300 v294
  v295.toNat
def k0_dev14 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_313 : BitVec 32 := 1#32
  let v310 : BitVec 32 := Scalar.muli v3 c1_i32_313
  let v311 : BitVec 32 := Scalar.addi c0_i32_314 v310
  v311.toNat
def k0_dev15 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_347 : BitVec 32 := 1#32
  let v343 : BitVec 32 := Scalar.muli v4 c1_i32_347
  let v344 : BitVec 32 := Scalar.addi c0_i32_348 v343
  v344.toNat
def k0_dev16 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_376 : BitVec 32 := 1#32
  let v369 : BitVec 32 := Scalar.muli v4 c1_i32_376
  let v370 : BitVec 32 := Scalar.addi c0_i32_377 v369
  v370.toNat
def k0_dev17 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_403 : BitVec 32 := 1#32
  let v395 : BitVec 32 := Scalar.muli v5 c1_i32_403
  let v396 : BitVec 32 := Scalar.addi c0_i32_404 v395
  v396.toNat
def k0_dev18 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_432 : BitVec 32 := 1#32
  let v421 : BitVec 32 := Scalar.muli v5 c1_i32_432
  let v422 : BitVec 32 := Scalar.addi c0_i32_433 v421
  v422.toNat
def k0_dev19 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_459 : BitVec 32 := 1#32
  let v447 : BitVec 32 := Scalar.muli v6 c1_i32_459
  let v448 : BitVec 32 := Scalar.addi c0_i32_460 v447
  v448.toNat
def k0_dev20 (d0 : Dev nD) : Nat :=
  let c0_i32_489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_488 : BitVec 32 := 1#32
  let v473 : BitVec 32 := Scalar.muli v6 c1_i32_488
  let v474 : BitVec 32 := Scalar.addi c0_i32_489 v473
  v474.toNat
def k0_dev21 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_544 : BitVec 32 := 1#32
  let v532 : BitVec 32 := Scalar.muli v3 c1_i32_544
  let v533 : BitVec 32 := Scalar.addi c0_i32_545 v532
  v533.toNat
def k0_dev22 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_558 : BitVec 32 := 1#32
  let v548 : BitVec 32 := Scalar.muli v3 c1_i32_558
  let v549 : BitVec 32 := Scalar.addi c0_i32_559 v548
  v549.toNat
def k0_dev23 (d0 : Dev nD) : Nat :=
  let c0_i32_593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_592 : BitVec 32 := 1#32
  let v581 : BitVec 32 := Scalar.muli v4 c1_i32_592
  let v582 : BitVec 32 := Scalar.addi c0_i32_593 v581
  v582.toNat
def k0_dev24 (d0 : Dev nD) : Nat :=
  let c0_i32_622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_621 : BitVec 32 := 1#32
  let v607 : BitVec 32 := Scalar.muli v4 c1_i32_621
  let v608 : BitVec 32 := Scalar.addi c0_i32_622 v607
  v608.toNat
def k0_dev25 (d0 : Dev nD) : Nat :=
  let c0_i32_649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_648 : BitVec 32 := 1#32
  let v633 : BitVec 32 := Scalar.muli v5 c1_i32_648
  let v634 : BitVec 32 := Scalar.addi c0_i32_649 v633
  v634.toNat
def k0_dev26 (d0 : Dev nD) : Nat :=
  let c0_i32_678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_677 : BitVec 32 := 1#32
  let v659 : BitVec 32 := Scalar.muli v5 c1_i32_677
  let v660 : BitVec 32 := Scalar.addi c0_i32_678 v659
  v660.toNat
def k0_dev27 (d0 : Dev nD) : Nat :=
  let c0_i32_705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_704 : BitVec 32 := 1#32
  let v685 : BitVec 32 := Scalar.muli v6 c1_i32_704
  let v686 : BitVec 32 := Scalar.addi c0_i32_705 v685
  v686.toNat
def k0_dev28 (d0 : Dev nD) : Nat :=
  let c0_i32_734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_733 : BitVec 32 := 1#32
  let v711 : BitVec 32 := Scalar.muli v6 c1_i32_733
  let v712 : BitVec 32 := Scalar.addi c0_i32_734 v711
  v712.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x8192 : Shape := ⟨2, ![64, 8192]⟩
abbrev S8192x1024 : Shape := ⟨2, ![8192, 1024]⟩
abbrev S1024x8192 : Shape := ⟨2, ![1024, 8192]⟩
abbrev S64x1024 : Shape := ⟨2, ![64, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x8192, .f32⟩
  | .hbm, ⟨5, _⟩ => ⟨S1024x8192, .f32⟩
  | .hbm, ⟨6, _⟩ => ⟨S1024x8192, .f32⟩
  | .hbm, ⟨7, _⟩ => ⟨S64x1024, .f32⟩
  | .hbm, ⟨8, _⟩ => ⟨S_, .f32⟩
  | .hbm, ⟨9, _⟩ => ⟨S64x1024, .f32⟩
  | .hbm, ⟨10, _⟩ => ⟨S64x1024, .f32⟩
  | .hbm, ⟨11, _⟩ => ⟨S64x8192, .f32⟩
  | .hbm, ⟨12, _⟩ => ⟨S64x1024, .f32⟩
  | .hbm, ⟨13, _⟩ => ⟨S_, .f32⟩
  | .hbm, ⟨14, _⟩ => ⟨S64x1024, .f32⟩
  | .hbm, ⟨15, _⟩ => ⟨S64x1024, .f32⟩
  | .hbm, ⟨16, _⟩ => ⟨S64x8192, .f32⟩
  | .hbm, ⟨17, _⟩ => ⟨S64x1024, .f32⟩
  | .hbm, ⟨18, _⟩ => ⟨S_, .f32⟩
  | .hbm, ⟨19, _⟩ => ⟨S64x1024, .f32⟩
  | .hbm, ⟨20, _⟩ => ⟨S64x1024, .f32⟩
  | .hbm, ⟨21, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Program.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Tactic

/-! # The kernel body, written from a few named pieces

The printed body is one long sequence of memory operations, the same few shapes over and over: put a
partial product in a slot of a chain and send it, wait for the partner's slot, add and pass on. Here
those shapes are named once, with the chain (`Fin 2`) and the exchange (`Fin 12`) as arguments, and
`body_eq` states that the printed body is their sequence. -/

@[expose] public section

set_option maxRecDepth 65536

noncomputable section

namespace Cert.KernelIdeal.Hyper

open Cert.KernelIdeal Cert.KernelIdeal.Gen
open Idealize.ShloMosaic Idealize.ShloMosaic.TcCoe Idealize.SL.Sem

variable {F : FTy → Type} [FloatOps F]

/-- Programs of the kernel body. -/
abbrev KProg (F : FTy → Type) [FloatOps F] : Type → Type 1 := Prog (TpuEff nD τ sig (Elt F) Λ₀ .tc)

/-! ## Slots and semaphores -/

theorem slot_inb (e : Fin 12) : ∀ a, (![e.val, 0, 0] : Fin 3 → Nat) a + S1x64x512.size a ≤ S12x64x512.size a := by
  revert e; decide

/-- The rectangle of slot `e` in a chain's buffer. -/
abbrev slotR (e : Fin 12) : Rect S12x64x512 := Rect.unit (s := S12x64x512) ![e.val, 0, 0] S1x64x512.size (slot_inb e)

/-- The send buffer of a chain. -/
def sB : Fin 2 → Memref sig .tc .vmem S12x64x512 .bf16
  | 0 => Memref.whole cc0_scratch0
  | 1 => Memref.whole cc0_scratch2

/-- The landing buffer of a chain. -/
def rB : Fin 2 → Memref sig .tc .vmem S12x64x512 .bf16
  | 0 => Memref.whole cc0_scratch1
  | 1 => Memref.whole cc0_scratch3

theorem sB_whole : ∀ ch, (sB ch).IsWhole
  | 0 => Memref.isWhole_whole _
  | 1 => Memref.isWhole_whole _

theorem rB_whole : ∀ ch, (rB ch).IsWhole
  | 0 => Memref.isWhole_whole _
  | 1 => Memref.isWhole_whole _

/-- The semaphores a chain's sends complete on, at home and at the partner. -/
def sS : Fin 2 → DmaSems sig S12
  | 0 => cc0_scratch6
  | 1 => cc0_scratch8

def rS : Fin 2 → DmaSems sig S12
  | 0 => cc0_scratch7
  | 1 => cc0_scratch9

/-- Slot `e` of a buffer as the copies name it. -/
abbrev slot (M : Memref sig .tc .vmem S12x64x512 .bf16) (e : Fin 12) : Memref sig .tc .vmem S64x512 .bf16 :=
  (M.slice (slotR e) (fun _ => rfl)).squeeze S64x512 squeezes_S1x64x512_S64x512

theorem sem_inb (e : Fin 12) : ∀ a, (![e.val] : Fin 1 → Nat) a + S1.size a ≤ S12.size a := by
  revert e; decide

/-- The semaphore of exchange `e` in an array of twelve. -/
abbrev semAt (A : DmaSems sig S12) (e : Fin 12) : DmaSem sig :=
  ((A.slice (Rect.unit (s := S12) ![e.val] S1.size (sem_inb e))).squeeze S_ squeezes_S1_S_).sem

theorem slot_words (e : Fin 12) : (slotR e).WholeWords (EltTy.packing .bf16) := by
  revert e; decide

theorem slot_packed (e : Fin 12) : (slotR e).PackedRows (EltTy.packing .bf16) := by
  revert e; decide

theorem slot_word {M : Memref sig .tc .vmem S12x64x512 .bf16} (h : M.IsWhole) (e : Fin 12) :
    (slot M e).view.WordExact := (h.wordExact_slice rfl _ (slot_words e)).reshape _ _

/-! ## Operations on one slot -/

/-- Read slot `e`. -/
def ld (M : Memref sig .tc .vmem S12x64x512 .bf16) (e : Fin 12) : KProg F (Vec F S1x64x512 .bf16) :=
  Prog.lift (.load M (slotR e).toLoadRect (View.loadsAt_vmem h_S1x64x512))

/-- Store `w` in slot `e` of a chain's send buffer. -/
def st (ch : Fin 2) (e : Fin 12) (w : Vec F S1x64x512 .bf16) : KProg F PUnit :=
  Prog.lift (.store (sB ch) (slotR e) w Finset.univ
    (View.stores_vmem h_S1x64x512 ((sB_whole ch).storeExact_slice rfl _ (slot_packed e)) (fun _ => rfl)) (.inl rfl))

/-- Copy slot `e` of a chain to device `n`. -/
def send (ch : Fin 2) (e : Fin 12) (n : Dev nD) : KProg F PUnit :=
  Prog.lift (.enqueueDma (slot (sB ch) e) (.remote (Dev.tc n) (slot (rB ch) e) (.dma (semAt (sS ch) e)))
    (.dma (semAt (rS ch) e)) (slot_word (sB_whole ch) e) (slot_word (rB_whole ch) e) ⟨⟨rfl, Or.inl rfl⟩, trivial⟩)

/-- Wait for the partner's copy of exchange `e`. -/
def waitR (ch : Fin 2) (e : Fin 12) : KProg F PUnit :=
  Prog.lift (.waitDma2 (semAt (rS ch) e) (slot (sB ch) e) (slot (rB ch) e)
    (slot_word (sB_whole ch) e) (slot_word (rB_whole ch) e))

/-- Wait for one's own copy of exchange `e` to have left. -/
def waitS (ch : Fin 2) (e : Fin 12) : KProg F PUnit :=
  Prog.lift (.waitDma2 (semAt (sS ch) e) (slot (rB ch) e) (slot (sB ch) e)
    (slot_word (rB_whole ch) e) (slot_word (sB_whole ch) e))

/-- Store over what was there (the body reads it first and drops it). -/
def put (ch : Fin 2) (e : Fin 12) (w : Vec F S1x64x512 .bf16) : KProg F PUnit := do
  let _ ← ld (sB ch) e
  st ch e w

/-- One exchange: take the partner's slot `e`, add one's own, put the sum in slot `e'` and send it to `n`. -/
def step (ch : Fin 2) (e e' : Fin 12) (n : Dev nD) : KProg F PUnit := do
  waitR ch e
  let a ← ld (sB ch) e
  let b ← ld (rB ch) e
  put ch e' (k0_pay7 a b)
  send ch e' n

/-- The last exchange of a layer: take the partner's slot and read both. -/
def last (ch : Fin 2) (e : Fin 12) : KProg F (Vec F S1x64x512 .bf16 × Vec F S1x64x512 .bf16) := do
  waitR ch e
  let a ← ld (sB ch) e
  let b ← ld (rB ch) e
  pure (a, b)

/-! ## The weights -/

theorem win_inb (l : Fin 3) : ∀ a, (![l.val, 0, 0] : Fin 3 → Nat) a + S1x512x1024.size a ≤ S3x512x1024.size a := by
  revert l; decide
theorem wout_inb (l : Fin 3) : ∀ a, (![l.val, 0, 0] : Fin 3 → Nat) a + S1x1024x512.size a ≤ S3x1024x512.size a := by
  revert l; decide
theorem wsem_inb (l : Fin 3) : ∀ a, (![l.val] : Fin 1 → Nat) a + S1.size a ≤ S3.size a := by
  revert l; decide

abbrev winR (l : Fin 3) : Rect S3x512x1024 := Rect.unit (s := S3x512x1024) ![l.val, 0, 0] S1x512x1024.size (win_inb l)
abbrev woutR (l : Fin 3) : Rect S3x1024x512 := Rect.unit (s := S3x1024x512) ![l.val, 0, 0] S1x1024x512.size (wout_inb l)

/-- The scratch of all layers' first and second weights. -/
abbrev winB : Memref sig .tc .vmem S3x512x1024 .f32 := Memref.whole cc0_scratch4
abbrev woutB : Memref sig .tc .vmem S3x1024x512 .f32 := Memref.whole cc0_scratch5

abbrev winSlot (l : Fin 3) : Memref sig .tc .vmem S512x1024 .f32 :=
  (winB.slice (winR l) (fun _ => rfl)).squeeze S512x1024 squeezes_S1x512x1024_S512x1024
abbrev woutSlot (l : Fin 3) : Memref sig .tc .vmem S1024x512 .f32 :=
  (woutB.slice (woutR l) (fun _ => rfl)).squeeze S1024x512 squeezes_S1x1024x512_S1024x512

/-- The argument arrays that hold layer `l`'s weights. -/
def winA : Fin 3 → Memref sig .tc .hbm S512x1024 .f32
  | 0 => Memref.whole main_arg1
  | 1 => Memref.whole main_arg2
  | 2 => Memref.whole main_arg3
def woutA : Fin 3 → Memref sig .tc .hbm S1024x512 .f32
  | 0 => Memref.whole main_arg4
  | 1 => Memref.whole main_arg5
  | 2 => Memref.whole main_arg6

theorem winA_whole : ∀ l, (winA l).IsWhole
  | 0 => Memref.isWhole_whole _
  | 1 => Memref.isWhole_whole _
  | 2 => Memref.isWhole_whole _
theorem woutA_whole : ∀ l, (woutA l).IsWhole
  | 0 => Memref.isWhole_whole _
  | 1 => Memref.isWhole_whole _
  | 2 => Memref.isWhole_whole _

abbrev wsemAt (A : DmaSems sig S3) (l : Fin 3) : DmaSem sig :=
  ((A.slice (Rect.unit (s := S3) ![l.val] S1.size (wsem_inb l))).squeeze S_ squeezes_S1_S_).sem

/-- Start the copy of layer `l`'s weights into the scratch, and wait for it. -/
def cpIn (l : Fin 3) : KProg F PUnit :=
  Prog.lift (.enqueueDma (winA l) (.here (winSlot l)) (.dma (wsemAt cc0_scratch10 l)) (winA_whole l).wordExact
    ((View.wordExact_bits rfl).reshape _ _) ⟨Or.inl rfl, trivial⟩)
def cpOut (l : Fin 3) : KProg F PUnit :=
  Prog.lift (.enqueueDma (woutA l) (.here (woutSlot l)) (.dma (wsemAt cc0_scratch11 l)) (woutA_whole l).wordExact
    ((View.wordExact_bits rfl).reshape _ _) ⟨Or.inl rfl, trivial⟩)
def waitIn (l : Fin 3) : KProg F PUnit :=
  Prog.lift (.waitDma2 (wsemAt cc0_scratch10 l) (winA l) (winSlot l) (winA_whole l).wordExact
    ((View.wordExact_bits rfl).reshape _ _))
def waitOut (l : Fin 3) : KProg F PUnit :=
  Prog.lift (.waitDma2 (wsemAt cc0_scratch11 l) (woutA l) (woutSlot l) (woutA_whole l).wordExact
    ((View.wordExact_bits rfl).reshape _ _))
def ldIn (l : Fin 3) : KProg F (Vec F S1x512x1024 .f32) :=
  Prog.lift (.load winB (winR l).toLoadRect (View.loadsAt_vmem h_S1x512x1024))
def ldOut (l : Fin 3) : KProg F (Vec F S1x1024x512 .f32) :=
  Prog.lift (.load woutB (woutR l).toLoadRect (View.loadsAt_vmem h_S1x1024x512))

/-! ## The two windows -/

abbrev xB : Memref sig .tc .vmem S64x512 .f32 := Memref.whole cc0_stg0_0
abbrev outB : Memref sig .tc .vmem S64x512 .f32 := Memref.whole cc0_stg1_0
abbrev fullR : Rect S64x512 := Rect.unit (s := S64x512) ![0, 0] S64x512.size inb_S64x512_S64x512_0_0

def ldX : KProg F (Vec F S64x512 .f32) :=
  Prog.lift (.load xB fullR.toLoadRect (View.loadsAt_vmem h_S64x512))
def putOut (w : FVec F S64x512 .f32) : KProg F PUnit := do
  let _ ← (Prog.lift (.load outB fullR.toLoadRect (View.loadsAt_vmem h_S64x512)) : KProg F (Vec F S64x512 .f32))
  Prog.lift (.store outB fullR w Finset.univ (View.stores_vmem_bits_univ h_S64x512 rfl) (.inl rfl))

/-! ## The sequence -/

/-- The barrier's semaphore. -/
abbrev barS : Sem sig := (SemArray.scalar (sig.barrier 0 rfl) : Sems sig S_).sem

/-- The devices the body signals, in its order. -/
def sigDev : Fin 4 → Dev nD → Dev nD
  | 0 => fun d => ⟨k0_dev1 d, k0_dev1_lt d⟩
  | 1 => fun d => ⟨k0_dev2 d, k0_dev2_lt d⟩
  | 2 => fun d => ⟨k0_dev3 d, k0_dev3_lt d⟩
  | 3 => fun d => ⟨k0_dev4 d, k0_dev4_lt d⟩

/-- The device each exchange of each chain sends to. -/
def sendDev : Fin 2 → Fin 12 → Dev nD → Dev nD
  | 0, 0 => fun d => ⟨k0_dev5 d, k0_dev5_lt d⟩
  | 1, 0 => fun d => ⟨k0_dev6 d, k0_dev6_lt d⟩
  | 0, 1 => fun d => ⟨k0_dev7 d, k0_dev7_lt d⟩
  | 1, 1 => fun d => ⟨k0_dev8 d, k0_dev8_lt d⟩
  | 0, 2 => fun d => ⟨k0_dev9 d, k0_dev9_lt d⟩
  | 1, 2 => fun d => ⟨k0_dev10 d, k0_dev10_lt d⟩
  | 0, 3 => fun d => ⟨k0_dev11 d, k0_dev11_lt d⟩
  | 1, 3 => fun d => ⟨k0_dev12 d, k0_dev12_lt d⟩
  | 0, 4 => fun d => ⟨k0_dev13 d, k0_dev13_lt d⟩
  | 1, 4 => fun d => ⟨k0_dev14 d, k0_dev14_lt d⟩
  | 0, 5 => fun d => ⟨k0_dev15 d, k0_dev15_lt d⟩
  | 1, 5 => fun d => ⟨k0_dev16 d, k0_dev16_lt d⟩
  | 0, 6 => fun d => ⟨k0_dev17 d, k0_dev17_lt d⟩
  | 1, 6 => fun d => ⟨k0_dev18 d, k0_dev18_lt d⟩
  | 0, 7 => fun d => ⟨k0_dev19 d, k0_dev19_lt d⟩
  | 1, 7 => fun d => ⟨k0_dev20 d, k0_dev20_lt d⟩
  | 0, 8 => fun d => ⟨k0_dev21 d, k0_dev21_lt d⟩
  | 1, 8 => fun d => ⟨k0_dev22 d, k0_dev22_lt d⟩
  | 0, 9 => fun d => ⟨k0_dev23 d, k0_dev23_lt d⟩
  | 1, 9 => fun d => ⟨k0_dev24 d, k0_dev24_lt d⟩
  | 0, 10 => fun d => ⟨k0_dev25 d, k0_dev25_lt d⟩
  | 1, 10 => fun d => ⟨k0_dev26 d, k0_dev26_lt d⟩
  | 0, 11 => fun d => ⟨k0_dev27 d, k0_dev27_lt d⟩
  | 1, 11 => fun d => ⟨k0_dev28 d, k0_dev28_lt d⟩

/-- Signal the four partners' barriers. -/
def signals (d : Dev nD) : KProg F PUnit := do
  semSignalWord (sigDev 0 d) barS 1#32
  semSignalWord (sigDev 1 d) barS 1#32
  semSignalWord (sigDev 2 d) barS 1#32
  semSignalWord (sigDev 3 d) barS 1#32

/-- Start all six copies of the weights. -/
def copies : KProg F PUnit := do
  cpIn 0; cpOut 0; cpIn 1; cpOut 1; cpIn 2; cpOut 2

/-- A layer from its first send on, after the first chain's partial product `p0` is in slot `e0`; `p1` is the second's. -/
def exchange (l : Fin 3) (e0 e1 e2 e3 : Fin 12) (p1 : Vec F S1x64x512 .bf16) (d : Dev nD) :
    KProg F (Vec F S1x1024x512 .f32 × (Vec F S1x64x512 .bf16 × Vec F S1x64x512 .bf16)
      × (Vec F S1x64x512 .bf16 × Vec F S1x64x512 .bf16)) := do
  send 0 e0 (sendDev 0 e0 d)
  put 1 e0 p1
  send 1 e0 (sendDev 1 e0 d)
  waitOut l
  let wo ← ldOut l
  step 0 e0 e1 (sendDev 0 e1 d)
  step 1 e0 e1 (sendDev 1 e1 d)
  step 0 e1 e2 (sendDev 0 e2 d)
  step 1 e1 e2 (sendDev 1 e2 d)
  step 0 e2 e3 (sendDev 0 e3 d)
  step 1 e2 e3 (sendDev 1 e3 d)
  let p ← last 0 e3
  let q ← last 1 e3
  pure (wo, p, q)

/-- The waits for the sends of exchange `e`. -/
def drain (e : Fin 12) : KProg F PUnit := do
  waitS 0 e
  waitS 1 e

/-- What a layer hands to the next: the product of both activated halves with the second weight. -/
abbrev nextB (r : Vec F S1x1024x512 .f32 × (Vec F S1x64x512 .bf16 × Vec F S1x64x512 .bf16)
      × (Vec F S1x64x512 .bf16 × Vec F S1x64x512 .bf16)) : FVec F S64x512 .bf16 :=
  k0_pay25 (k0_pay6 r.1) r.2.1.1 r.2.1.2 r.2.2.1 r.2.2.2

/-- The last layer's result. -/
abbrev outV (r : Vec F S1x1024x512 .f32 × (Vec F S1x64x512 .bf16 × Vec F S1x64x512 .bf16)
      × (Vec F S1x64x512 .bf16 × Vec F S1x64x512 .bf16)) : FVec F S64x512 .f32 :=
  k0_pay39 (k0_pay6 r.1) (k0_pay38 (k0_pay6 r.1) r.2.1.1 r.2.1.2) r.2.2.1 r.2.2.2

/-- Exchange `k` of layer `l`, among the twelve. -/
def ix (l : Fin 3) (k : Fin 4) : Fin 12 := ⟨4 * l.val + k.val, by omega⟩

/-- The waits for the sends of layer `l`. -/
def drains (l : Fin 3) : KProg F PUnit := do
  drain (ix l 0); drain (ix l 1); drain (ix l 2); drain (ix l 3)

/-- The body. -/
def body : KProg F PUnit := do
  let d ← (Prog.lift .deviceId : KProg F (Dev nD))
  signals d
  copies
  let x ← ldX
  waitIn 0
  let w0 ← ldIn 0
  put 0 (ix 0 0) (k0_pay27 (k0_pay1 x) w0)
  semWaitWord barS 4#32
  let r0 ← exchange 0 (ix 0 0) (ix 0 1) (ix 0 2) (ix 0 3) (k0_pay28 (k0_pay1 x) w0) d
  waitIn 1
  let w1 ← ldIn 1
  put 0 (ix 1 0) (k0_pay27 (nextB r0) w1)
  let r1 ← exchange 1 (ix 1 0) (ix 1 1) (ix 1 2) (ix 1 3) (k0_pay28 (nextB r0) w1) d
  waitIn 2
  let w2 ← ldIn 2
  put 0 (ix 2 0) (k0_pay27 (nextB r1) w2)
  let r2 ← exchange 2 (ix 2 0) (ix 2 1) (ix 2 2) (ix 2 3) (k0_pay28 (nextB r1) w2) d
  putOut (outV r2)
  drains 0
  drains 1
  drains 2

set_option maxHeartbeats 4000000 in
/-- The printed body, as the pipeline calls it, is this sequence. -/
theorem body_eq (t : Fin cfg0.N) : (bodyAt0 t : KProg F PUnit) = body := by
  chain_rfl

end Cert.KernelIdeal.Hyper

end
-- ==== Proof.Contents.lean ====
module

public import proofs.«01_k».proof.Proof.Program

/-! # Partners, and what every slot holds

Device `c` talks to the devices whose number differs from its own in the bits of `1`, `3`, `4` or `8`: exchange
`k` of each layer is with `ptn k c`. The contents of every slot follow from the inputs alone: a chain starts with
the device's partial product, and each exchange adds the partner's value to one's own. -/

@[expose] public section

set_option maxRecDepth 65536

noncomputable section

namespace Cert.KernelIdeal.Hyper

open Cert.KernelIdeal Cert.KernelIdeal.Gen
open Idealize.ShloMosaic Idealize.ShloMosaic.TcCoe Idealize.SL.Sem

variable {F : FTy → Type} [FloatOps F]

/-! ## Partners -/

/-- The bits exchange `k` flips. -/
def mask : Fin 4 → Nat
  | 0 => 1
  | 1 => 3
  | 2 => 4
  | 3 => 8

theorem ptn_lt : ∀ (k : Fin 4) (c : Dev nD), c.val ^^^ mask k < nD := by decide

/-- The partner of device `c` in exchange `k`. -/
def ptn (k : Fin 4) (c : Dev nD) : Dev nD := ⟨c.val ^^^ mask k, ptn_lt k c⟩

theorem ptn_ptn : ∀ (k : Fin 4) (c : Dev nD), ptn k (ptn k c) = c := by decide

/-- Taking the partner, as a bijection of the devices. -/
def ptnE (k : Fin 4) : Dev nD ≃ Dev nD := ⟨ptn k, ptn k, ptn_ptn k, ptn_ptn k⟩

/-- The exchange within a layer, and the layer, of one of the twelve. -/
def kof (e : Fin 12) : Fin 4 := ⟨e.val % 4, Nat.mod_lt _ (by decide)⟩
def lof (e : Fin 12) : Fin 3 := ⟨e.val / 4, by omega⟩

theorem kof_ix : ∀ l k, kof (ix l k) = k := by decide
theorem lof_ix : ∀ l k, lof (ix l k) = l := by decide

/-- The signals go to the four partners, -/
theorem sigDev_eq : ∀ (k : Fin 4) (c : Dev nD), sigDev k c = ptn k c := by decide +kernel
/-- and the copies to the partner of their exchange. -/
theorem sendDev_eq : ∀ (ch : Fin 2) (e : Fin 12) (c : Dev nD), sendDev ch e c = ptn (kof e) c := by decide +kernel

/-! ## Contents -/

/-- A weight block under the leading axis the scratch gives it. -/
abbrev unsqI : S1x512x1024.Idx → S512x1024.Idx := (Shape.reshapeEquiv squeezes_S1x512x1024_S512x1024.numel_eq).symm
abbrev unsqO : S1x1024x512.Idx → S1024x512.Idx := (Shape.reshapeEquiv squeezes_S1x1024x512_S1024x512.numel_eq).symm

/-- What the devices start from: the activations and both weights of every layer, each device its block. -/
structure Inputs (F : FTy → Type) [FloatOps F] where
  x : Dev nD → FVec F S64x512 .f32
  wa : Fin 3 → Dev nD → FVec F S512x1024 .f32
  wb : Fin 3 → Dev nD → FVec F S1024x512 .f32

namespace Inputs

variable (P : Inputs F)

/-- The weights as they stand in the scratch. -/
def wi (l : Fin 3) (c : Dev nD) : FVec F S1x512x1024 .f32 := fun j => P.wa l c (unsqI j)
def wo (l : Fin 3) (c : Dev nD) : FVec F S1x1024x512 .f32 := fun j => P.wb l c (unsqO j)

end Inputs

/-- A chain after `k` exchanges: each adds the partner's value. -/
def chain (p : Dev nD → FVec F S1x64x512 .bf16) : Nat → Dev nD → FVec F S1x64x512 .bf16
  | 0, c => p c
  | k + 1, c => k0_pay7 (chain p k c) (chain p k (ptn (Fin.ofNat 4 k) c))

/-- The two chains' first values: the partial products of the two halves of the hidden axis. -/
def part : Fin 2 → FVec F S64x512 .bf16 → FVec F S1x512x1024 .f32 → FVec F S1x64x512 .bf16
  | 0 => k0_pay27
  | 1 => k0_pay28

namespace Inputs

variable (P : Inputs F)

/-- What a layer's exchanges return on device `c`, from every device's input `xb`. -/
def lay (xb : Dev nD → FVec F S64x512 .bf16) (l : Fin 3) (c : Dev nD) :
    Vec F S1x1024x512 .f32 × (Vec F S1x64x512 .bf16 × Vec F S1x64x512 .bf16)
      × (Vec F S1x64x512 .bf16 × Vec F S1x64x512 .bf16) :=
  (P.wo l c,
    (chain (fun d => part 0 (xb d) (P.wi l d)) 3 c, chain (fun d => part 0 (xb d) (P.wi l d)) 3 (ptn 3 c)),
    (chain (fun d => part 1 (xb d) (P.wi l d)) 3 c, chain (fun d => part 1 (xb d) (P.wi l d)) 3 (ptn 3 c)))

/-- The input of layer `l` on every device. -/
def xb : Fin 3 → Dev nD → FVec F S64x512 .bf16
  | 0 => fun c => k0_pay1 (P.x c)
  | 1 => fun c => nextB (P.lay (fun d => k0_pay1 (P.x d)) 0 c)
  | 2 => fun c => nextB (P.lay (fun e => nextB (P.lay (fun d => k0_pay1 (P.x d)) 0 e)) 1 c)

theorem xb_zero (c : Dev nD) : P.xb 0 c = k0_pay1 (P.x c) := rfl
theorem xb_one (c : Dev nD) : P.xb 1 c = nextB (P.lay (P.xb 0) 0 c) := rfl
theorem xb_two (c : Dev nD) : P.xb 2 c = nextB (P.lay (P.xb 1) 1 c) := rfl

/-- The kernel's result on device `c`. -/
def out (c : Dev nD) : FVec F S64x512 .f32 := outV (P.lay (P.xb 2) 2 c)

/-- What device `c` sends in exchange `e` of chain `ch`. -/
def sv (ch : Fin 2) (e : Fin 12) (c : Dev nD) : FVec F S1x64x512 .bf16 :=
  chain (fun d => part ch (P.xb (lof e) d) (P.wi (lof e) d)) (kof e).val c

/-- The first exchange of a layer sends the partial product. -/
theorem sv_first (ch : Fin 2) (l : Fin 3) (c : Dev nD) : P.sv ch (ix l 0) c = part ch (P.xb l c) (P.wi l c) := by
  unfold sv; rw [kof_ix, lof_ix]; rfl

/-- Each later one sends what it had plus what it took. -/
theorem sv_next (ch : Fin 2) (l : Fin 3) (c : Dev nD) (k k' : Fin 4) (h : k'.val = k.val + 1) :
    P.sv ch (ix l k') c = k0_pay7 (P.sv ch (ix l k) c) (P.sv ch (ix l k) (ptn k c)) := by
  have hk : Fin.ofNat 4 k.val = k := Fin.ext (Nat.mod_eq_of_lt k.isLt)
  unfold sv; rw [kof_ix, kof_ix, lof_ix, lof_ix, h]
  show k0_pay7 _ (chain _ _ (ptn (Fin.ofNat 4 k.val) c)) = _
  rw [hk]

/-- A layer's result, from what its last exchange sent. -/
theorem lay_eq (l : Fin 3) (c : Dev nD) :
    P.lay (P.xb l) l c = (P.wo l c, (P.sv 0 (ix l 3) c, P.sv 0 (ix l 3) (ptn 3 c)), (P.sv 1 (ix l 3) c, P.sv 1 (ix l 3) (ptn 3 c))) := by
  unfold sv; rw [kof_ix, lof_ix]; rfl

end Inputs

end Cert.KernelIdeal.Hyper

end
-- ==== Proof.Protocol.lean ====
module

public import proofs.«01_k».proof.Proof.Contents

/-! # The protocol

Every semaphore the kernel uses is one cell, with one round:

* the barrier's cell of device `c` has four duties, one for each partner; duty `k` is paid by `ptn k c`, which hands `c`
  its own landing slots of every exchange with `c`;
* the landing cell of an exchange has one duty, paid by the partner's copy: the landing slot with the partner's value;
* the sending cell of an exchange has one duty, paid by one's own copy: the half share of the slot it read;
* the cell of a weight's copy has one duty, paid by that copy: the scratch's slot with the weight, and the weight's array.

A device owes its partners the landing cells' credits, in the order in which it sends, and each barrier one unit. A
landing cell stands above the barrier and every earlier landing cell. -/

@[expose] public section

set_option maxRecDepth 65536

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Cells -/

/-- The kernel's own semaphores: sending, landing, and the copies of the first and of the second weights. -/
abbrev OC : Type := (Fin 2 × Fin 12) ⊕ (Fin 2 × Fin 12) ⊕ Fin 3 ⊕ Fin 3
/-- All of them: the barrier's and its own. -/
abbrev Ck : Type := Unit ⊕ OC

def osem : OC → SemLoc sig
  | .inl i => .dma (semAt (sS i.1) i.2)
  | .inr (.inl i) => .dma (semAt (rS i.1) i.2)
  | .inr (.inr (.inl l)) => .dma (wsemAt cc0_scratch10 l)
  | .inr (.inr (.inr l)) => .dma (wsemAt cc0_scratch11 l)

def csem : Ck → SemLoc sig
  | .inl _ => .reg barS
  | .inr k => osem k

abbrev kBar : Ck := .inl ()
abbrev kSnd (ch : Fin 2) (e : Fin 12) : Ck := .inr (.inl (ch, e))
abbrev kRcv (ch : Fin 2) (e : Fin 12) : Ck := .inr (.inr (.inl (ch, e)))
abbrev kIn (l : Fin 3) : Ck := .inr (.inr (.inr (.inl l)))
abbrev kOut (l : Fin 3) : Ck := .inr (.inr (.inr (.inr l)))

/-- Cell `k` of device `c`. -/
abbrev kcell (ck : Dev nD × Ck) : GSem nD τ sig := ((ck.1 : Thread nD τ), csem ck.2)

/-- A number for each semaphore of the kernel. -/
def semNo : Ck → ℕ
  | .inl _ => 0
  | .inr (.inl i) => 2 + 24 * i.1.val + i.2.val
  | .inr (.inr (.inl i)) => 14 + 24 * i.1.val + i.2.val
  | .inr (.inr (.inr (.inl l))) => 50 + l.val
  | .inr (.inr (.inr (.inr l))) => 53 + l.val

/-- A semaphore's place in its table; the barrier's own is none of the copies'. -/
def numOf : SemLoc sig → ℕ
  | .reg _ => 0
  | .dma q => q.val

theorem num_snd : ∀ (ch : Fin 2) (e : Fin 12), (semAt (sS ch) e).val = 2 + 24 * ch.val + e.val := by decide
theorem num_rcv : ∀ (ch : Fin 2) (e : Fin 12), (semAt (rS ch) e).val = 14 + 24 * ch.val + e.val := by decide
theorem num_in : ∀ l : Fin 3, (wsemAt cc0_scratch10 l).val = 50 + l.val := by decide
theorem num_out : ∀ l : Fin 3, (wsemAt cc0_scratch11 l).val = 53 + l.val := by decide

theorem numOf_csem : ∀ k, numOf (csem k) = semNo k
  | .inl _ => rfl
  | .inr (.inl i) => num_snd i.1 i.2
  | .inr (.inr (.inl i)) => num_rcv i.1 i.2
  | .inr (.inr (.inr (.inl l))) => num_in l
  | .inr (.inr (.inr (.inr l))) => num_out l

theorem semNo_injective : Function.Injective semNo := by
  rintro (⟨⟩ | ⟨⟨a, _⟩, ⟨b, _⟩⟩ | ⟨⟨a, _⟩, ⟨b, _⟩⟩ | ⟨a, _⟩ | ⟨a, _⟩) (⟨⟩ | ⟨⟨a', _⟩, ⟨b', _⟩⟩ | ⟨⟨a', _⟩, ⟨b', _⟩⟩ | ⟨a', _⟩ | ⟨a', _⟩) h <;>
    simp only [semNo] at h <;> first | rfl | (exfalso; omega) | skip
  · obtain ⟨rfl, rfl⟩ : a = a' ∧ b = b' := by omega
    rfl
  · obtain ⟨rfl, rfl⟩ : a = a' ∧ b = b' := by omega
    rfl
  · obtain rfl : a = a' := by omega
    rfl
  · obtain rfl : a = a' := by omega
    rfl

theorem csem_injective : Function.Injective csem := fun a b h =>
  semNo_injective (by rw [← numOf_csem, ← numOf_csem, h])

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- Which of the cells a semaphore is. -/
def kindOf (sm : SemLoc sig) : Option Ck := Function.partialInv csem sm

theorem kindOf_csem (k : Ck) : kindOf (csem k) = some k := Function.partialInv_left csem_injective k

/-! ## Amounts -/

/-- The credits of one slot, of a first weight and of a second weight. -/
@[irreducible] def N : ℕ := (slot (rB 0) 0).view.dmaCredit
@[irreducible] def NI : ℕ := (winSlot 0).view.dmaCredit
@[irreducible] def NO : ℕ := (woutSlot 0).view.dmaCredit

theorem N_rcv : ∀ ch e, (slot (rB ch) e).view.dmaCredit = N
  | 0, _ => by unfold N; rfl
  | 1, _ => by unfold N; rfl
theorem N_snd : ∀ ch e, (slot (sB ch) e).view.dmaCredit = N
  | 0, _ => by unfold N; rfl
  | 1, _ => by unfold N; rfl
theorem N_in (l : Fin 3) : (winSlot l).view.dmaCredit = NI := by unfold NI; rfl
theorem N_out (l : Fin 3) : (woutSlot l).view.dmaCredit = NO := by unfold NO; rfl

theorem N_pos : 0 < N := by unfold N; exact View.dmaCredit_pos _ (Shape.numel_pos (by decide))
theorem NI_pos : 0 < NI := by unfold NI; exact View.dmaCredit_pos _ (Shape.numel_pos (by decide))
theorem NO_pos : 0 < NO := by unfold NO; exact View.dmaCredit_pos _ (Shape.numel_pos (by decide))

def amtOf : Ck → ℕ
  | .inl _ => 1
  | .inr (.inl _) => N
  | .inr (.inr (.inl _)) => N
  | .inr (.inr (.inr (.inl _))) => NI
  | .inr (.inr (.inr (.inr _))) => NO

theorem amtOf_pos : ∀ k, 0 < amtOf k
  | .inl _ => Nat.one_pos
  | .inr (.inl _) => N_pos
  | .inr (.inr (.inl _)) => N_pos
  | .inr (.inr (.inr (.inl _))) => NI_pos
  | .inr (.inr (.inr (.inr _))) => NO_pos

/-! ## The schedule -/

/-- The slots as the resources name them: a slice of the buffer, its leading axis kept. -/
abbrev sSl (ch : Fin 2) (e : Fin 12) : Memref sig .tc .vmem S1x64x512 .bf16 := (sB ch).slice (slotR e) (fun _ => rfl)
abbrev rSl (ch : Fin 2) (e : Fin 12) : Memref sig .tc .vmem S1x64x512 .bf16 := (rB ch).slice (slotR e) (fun _ => rfl)
abbrev wiSl (l : Fin 3) : Memref sig .tc .vmem S1x512x1024 .f32 := winB.slice (winR l) (fun _ => rfl)
abbrev woSl (l : Fin 3) : Memref sig .tc .vmem S1x1024x512 .f32 := woutB.slice (woutR l) (fun _ => rfl)

/-- Device `c` owns a memref at share `q` and reads `X` in it. -/
abbrev has (c : Dev nD) {sp : Space} {sh : Shape} {e : EltTy} (M : Memref sig .tc sp sh e) (q : PosShare TreeShare)
    (X : sh.Idx → Elt F e) : sProp 𝕄 :=
  owns (Ix := Unit) (Name := ℕ) (U := UU) (Lvl := ℕ) (c : Thread nD τ) M q X

/-- It owns it, at any contents. -/
abbrev holds (c : Dev nD) {sp : Space} {sh : Shape} {e : EltTy} (M : Memref sig .tc sp sh e) : sProp 𝕄 :=
  iprop(∃ X, has (F := F) c M fullShare X)

variable (P : Inputs F)

def dutyOf : Ck → Finset (Fin 4)
  | .inl _ => Finset.univ
  | .inr _ => {0}

/-- The landing slots device `d` uses in its exchanges `k`. -/
def landing (k : Fin 4) (d : Dev nD) : sProp 𝕄 :=
  bigSep Finset.univ fun l : Fin 3 => bigSep Finset.univ fun ch : Fin 2 => holds (F := F) d (rSl ch (ix l k))

def payOf (c : Dev nD) : Ck → Fin 4 → sProp 𝕄
  | .inl _, k => landing (F := F) k (ptn k c)
  | .inr (.inl i), _ => has c (sSl i.1 i.2) fullShare.right (P.sv i.1 i.2 c)
  | .inr (.inr (.inl i)), _ => has c (rSl i.1 i.2) fullShare (P.sv i.1 i.2 (ptn (kof i.2) c))
  | .inr (.inr (.inr (.inl l))), _ => iprop(has c (wiSl l) fullShare (P.wi l c) ∗ has c (winA l) fullShare (P.wa l c))
  | .inr (.inr (.inr (.inr l))), _ => iprop(has c (woSl l) fullShare (P.wo l c) ∗ has c (woutA l) fullShare (P.wb l c))

instance payOf_storable (c : Dev nD) : ∀ k d, BI.Storable (upEmb : UEmb _ 𝕄) (payOf P c k d)
  | .inl _, _ => by unfold payOf landing; infer_instance
  | .inr (.inl _), _ => by unfold payOf; infer_instance
  | .inr (.inr (.inl _)), _ => by unfold payOf; infer_instance
  | .inr (.inr (.inr (.inl _))), _ => by unfold payOf; infer_instance
  | .inr (.inr (.inr (.inr _))), _ => by unfold payOf; infer_instance

/-- The one schedule of all cells. -/
def rd : Rounds.Schedule (GSem nD τ sig) (Fin 4) 𝕄 where
  duties g r := if r = 0 ∧ g.1.2 = .tc then (kindOf g.2).elim ∅ dutyOf else ∅
  unitless _ := False
  amount g _ _ := (kindOf g.2).elim 1 amtOf
  payload g _ d := (kindOf g.2).elim iprop(emp) fun k => payOf P g.1.1 k d
  amount_pos g _ _ _ := by
    cases kindOf g.2 with
    | none => exact Nat.one_pos
    | some k => exact amtOf_pos k

instance rd_storable (g : GSem nD τ sig) (r : ℕ) (d : Fin 4) :
    BI.Storable (upEmb : UEmb _ 𝕄) ((rd P).payload g r d) := by
  show BI.Storable upEmb ((kindOf g.2).elim iprop(emp) fun k => payOf P g.1.1 k d)
  cases kindOf g.2 with
  | none => exact (inferInstance : BI.Storable (upEmb : UEmb _ 𝕄) iprop(emp))
  | some k => exact payOf_storable P g.1.1 k d

section Sched
variable (c : Dev nD) (k : Ck)

theorem duties_at : (rd P).duties (kcell (c, k)) 0 = dutyOf k := by
  dsimp only [rd]; rw [if_pos ⟨rfl, rfl⟩, kindOf_csem]; rfl

theorem duties_later (g : GSem nD τ sig) : ∀ r, 1 ≤ r → (rd P).duties g r = ∅ :=
  fun r hr => by dsimp only [rd]; rw [if_neg fun h => by omega]

theorem amount_at (d : Fin 4) : (rd P).amount (kcell (c, k)) 0 d = amtOf k := by
  dsimp only [rd]; rw [kindOf_csem]; rfl

theorem payload_at (d : Fin 4) : (rd P).payload (kcell (c, k)) 0 d = payOf P c k d := by
  dsimp only [rd]; rw [kindOf_csem]; rfl

theorem expect_at : (rd P).expect (kcell (c, k)) 0 = (dutyOf k).card * amtOf k := by
  unfold Schedule.expect Schedule.amountOf
  rw [duties_at, Finset.sum_congr rfl fun d _ => amount_at P c k d, Finset.sum_const, smul_eq_mul]

theorem expect_own (o : OC) : (rd P).expect (kcell (c, .inr o)) 0 = amtOf (.inr o) := by
  rw [expect_at]; exact Nat.one_mul _

/-- The one payload of an own cell's round. -/
theorem rest_own (o : OC) :
    bigSep ((rd P).duties (kcell (c, .inr o)) 0 \ ∅) (fun d => (rd P).payload (kcell (c, .inr o)) 0 d) = payOf P c (.inr o) 0 := by
  rw [Finset.sdiff_empty, duties_at]
  show bigSep {0} _ = _
  rw [bigSep_singleton, payload_at]

/-- The four payloads of the barrier's. -/
theorem rest_bar :
    bigSep ((rd P).duties (kcell (c, kBar)) 0 \ ∅) (fun d => (rd P).payload (kcell (c, kBar)) 0 d)
      = bigSep Finset.univ fun k : Fin 4 => landing (F := F) k (ptn k c) := by
  rw [Finset.sdiff_empty, duties_at]
  exact bigSep_congr fun d _ => payload_at P c kBar d

end Sched

/-! ## What a device owes -/

/-- The chain and the exchange of the `q`-th copy. -/
def chOf (q : ℕ) : Fin 2 := ⟨q % 2, Nat.mod_lt _ (by decide)⟩
def exOf (q : ℕ) : Fin 12 := ⟨q / 2 % 12, Nat.mod_lt _ (by decide)⟩

/-- The position of a copy in the body's order. -/
abbrev pos (ch : Fin 2) (e : Fin 12) : ℕ := 2 * e.val + ch.val

theorem chOf_pos (ch : Fin 2) (e : Fin 12) : chOf (pos ch e) = ch := by unfold chOf pos; apply Fin.ext; dsimp; omega
theorem exOf_pos (ch : Fin 2) (e : Fin 12) : exOf (pos ch e) = e := by unfold exOf pos; apply Fin.ext; dsimp; omega

/-- The landing cell a device's copy credits. -/
abbrev dstCell (ch : Fin 2) (e : Fin 12) (c : Dev nD) : GSem nD τ sig := kcell (ptn (kof e) c, kRcv ch e)

/-- What is owed from the `p`-th copy on. -/
def owedFrom (p : ℕ) (c : Dev nD) : CellTallies nD τ sig Unit :=
  ∑ q ∈ Finset.Ico p 24, tallyAt (dstCell (chOf q) (exOf q) c) () N

theorem owedFrom_peel (ch : Fin 2) (e : Fin 12) (c : Dev nD) :
    owedFrom (pos ch e) c = owedFrom (pos ch e + 1) c + tallyAt (dstCell ch e c) () N := by
  have h : Finset.Ico (pos ch e) 24 = insert (pos ch e) (Finset.Ico (pos ch e + 1) 24) := by
    ext q; simp only [Finset.mem_insert, Finset.mem_Ico]; unfold pos; omega
  unfold owedFrom
  rw [h, Finset.sum_insert (by simp), chOf_pos, exOf_pos, add_comm]

theorem owedFrom_end (c : Dev nD) : owedFrom 24 c = 0 := by unfold owedFrom; simp

/-- What is owed when the first `n` signals have gone. -/
def owedSig (n : ℕ) (c : Dev nD) : CellTallies nD τ sig Unit :=
  owedFrom 0 c + ∑ k ∈ Finset.univ.filter (fun k : Fin 4 => n ≤ k.val), tallyAt (kcell (ptn k c, kBar)) () 1

theorem owedSig_peel (k : Fin 4) (c : Dev nD) :
    owedSig k.val c = owedSig (k.val + 1) c + tallyAt (kcell (ptn k c, kBar)) () 1 := by
  have h : Finset.univ.filter (fun j : Fin 4 => k.val ≤ j.val) = insert k (Finset.univ.filter (fun j : Fin 4 => k.val + 1 ≤ j.val)) := by
    revert k; decide
  unfold owedSig
  rw [h, Finset.sum_insert (by simp), add_assoc, add_comm (tallyAt _ _ _)]

theorem owedSig_end (c : Dev nD) : owedSig 4 c = owedFrom 0 c := by
  have h : Finset.univ.filter (fun j : Fin 4 => 4 ≤ j.val) = ∅ := by decide
  unfold owedSig; rw [h, Finset.sum_empty, add_zero]

/-! ## Levels -/

def L (g : GSem nD τ sig) : Finset Unit := if g.1.2 = .tc then {()} else ∅

def lvOf : Ck → ℕ
  | .inl _ => 1
  | .inr (.inr (.inl i)) => 2 + pos i.1 i.2
  | .inr _ => 0

def lv (g : GSem nD τ sig) (_ : Unit) : ℕ := (kindOf g.2).elim 0 lvOf

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Ck) (u : Unit) : lv (kcell (c, k)) u = lvOf k := by unfold lv; rw [kindOf_csem]; rfl

theorem owedFrom_pos {p : ℕ} {c : Dev nD} {g : GSem nD τ sig} {u : Unit} (h : 0 < owedFrom p c g u) :
    ∃ q, p ≤ q ∧ q < 24 ∧ g = dstCell (chOf q) (exOf q) c := by
  by_contra hn
  unfold owedFrom at h
  rw [Finset.sum_apply, Finsupp.finset_sum_apply, Finset.sum_eq_zero] at h
  · exact Nat.lt_irrefl 0 h
  · intro q hq
    rw [tallyAt_apply, if_neg]
    exact fun h' => hn ⟨q, (Finset.mem_Ico.mp hq).1, (Finset.mem_Ico.mp hq).2, h'.1⟩

theorem owedSig_pos {n : ℕ} {c : Dev nD} {g : GSem nD τ sig} {u : Unit} (h : 0 < owedSig n c g u) :
    ∃ k d, 1 ≤ lvOf k ∧ g = kcell (d, k) := by
  unfold owedSig at h
  rw [Pi.add_apply, Finsupp.add_apply] at h
  rcases Nat.eq_zero_or_pos (owedFrom 0 c g u) with h0 | h0
  · by_contra hn
    rw [h0, Finset.sum_apply, Finsupp.finset_sum_apply, Finset.sum_eq_zero] at h
    · exact Nat.lt_irrefl 0 h
    · intro k _
      rw [tallyAt_apply, if_neg]
      exact fun h' => hn ⟨kBar, _, le_rfl, h'.1⟩
  · obtain ⟨q, _, _, rfl⟩ := owedFrom_pos h0
    exact ⟨_, _, by show 1 ≤ 2 + _; omega, rfl⟩

/-- A device may wait on a cell below everything it still owes. -/
theorem mayWait_from (c : Dev nD) (sm : SemLoc sig) (p : ℕ) (h : lv ((c : Thread nD τ), sm) () < 2 + p) :
    (levAts L lv : sProp 𝕄) ⊢ MayWait (c : Thread nD τ) sm () (owedFrom p c) := by
  refine MayOwe.of_cut (L := L) (lev := lv) (1 + p) (fun q hq => by rw [Finset.mem_singleton.mp hq, L_tc]; exact Finset.mem_singleton_self _)
    (fun g u hg => by obtain ⟨q, _, _, rfl⟩ := owedFrom_pos hg; exact Finset.mem_singleton_self _)
    (fun q hq => by rw [Finset.mem_singleton.mp hq]; dsimp only; omega)
    (fun g u hg => by
      obtain ⟨q, hq, hq', rfl⟩ := owedFrom_pos hg
      rw [lv_at]
      show 1 + p < 2 + pos (chOf q) (exOf q)
      have : pos (chOf q) (exOf q) = q := by unfold pos chOf exOf; dsimp; omega
      omega)

/-- The staging copies' waits: at level zero, below all. -/
theorem mayWait_sig (c : Dev nD) (sm : SemLoc sig) (n : ℕ) (h : lv ((c : Thread nD τ), sm) () = 0) :
    (levAts L lv : sProp 𝕄) ⊢ MayWait (c : Thread nD τ) sm () (owedSig n c) :=
  MayOwe.of_cut (L := L) (lev := lv) 0 (fun q hq => by rw [Finset.mem_singleton.mp hq, L_tc]; exact Finset.mem_singleton_self _)
    (fun g u hg => by obtain ⟨k, d, _, rfl⟩ := owedSig_pos hg; exact Finset.mem_singleton_self _)
    (fun q hq => by rw [Finset.mem_singleton.mp hq, h])
    (fun g u hg => by obtain ⟨k, d, hk, rfl⟩ := owedSig_pos hg; rw [lv_at]; exact hk)

/-! ## The records every device reads -/

/-- All cells' invariants, under the names `K`, and that each has reached its round. -/
def records (K : Dev nD × Ck → ℕ) : sProp 𝕄 :=
  bigSep Finset.univ fun ck : Dev nD × Ck => iprop(cellInv ER (rd P) (K ck) (kcell ck) ∗ reached ER (kcell ck) 0)

instance records_persistent (K : Dev nD × Ck → ℕ) : BI.Persistent (records P K) := by unfold records; infer_instance

theorem records_at (K : Dev nD × Ck → ℕ) (ck : Dev nD × Ck) :
    records P K ⊢ iprop(cellInv ER (rd P) (K ck) (kcell ck) ∗ reached ER (kcell ck) 0) := by
  classical
  exact bigSep_elim (Finset.mem_univ ck)

theorem records_inv (K : Dev nD × Ck → ℕ) (c : Dev nD) (k : Ck) :
    records P K ⊢ cellInv ER (rd P) (K (c, k)) (kcell (c, k)) := by
  iintro H
  ihave H := (records_at P K (c, k)) $$ H
  icases H with ⟨H, -⟩
  iexact H

theorem records_reached (K : Dev nD × Ck → ℕ) (c : Dev nD) (k : Ck) :
    records P K ⊢ reached ER (kcell (c, k)) 0 := by
  iintro H
  ihave H := (records_at P K (c, k)) $$ H
  icases H with ⟨-, H⟩
  iexact H

end Cert.KernelIdeal.Hyper

end
-- ==== Proof.Rules.lean ====
module

public import proofs.«01_k».proof.Proof.Protocol

/-! # The body's operations, one rule each

Each rule says what an operation of the body takes and what it gives back, in terms of owned slots, and is stated in
front of any continuation. -/

@[expose] public section

set_option maxRecDepth 65536

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The weakest precondition of a program of the body on device `c`. -/
abbrev WP (c : Dev nD) {α : Type} (p : KProg F α) (Q : α → sProp 𝕄) : sProp 𝕄 :=
  wp frame (wpE (defs₀ (F := F)) 𝒱₀ (c : Thread nD τ) none) Set.univ p Q

/-- A view read back after a write of all its elements through a reshaping of it: the written values, reshaped. -/
theorem read_write_reshape {κ : Kind} {sp : Space} {s : Shape} {e : EltTy} (v : View sig κ sp s e) (s' : Shape)
    (h : s'.numel = s.numel) (f : v.ty.Contents (Elt F)) (w : s'.Idx → Elt F e) :
    v.read (Elt F) ((v.reshape s' h).write (Elt F) f w Finset.univ) = fun j => w ((Shape.reshapeEquiv h).symm j) := by
  have h1 : (v.reshape s' h).read (Elt F) ((v.reshape s' h).write (Elt F) f w Finset.univ) = w := View.read_write_univ ..
  funext j
  have h2 := congrFun h1 ((Shape.reshapeEquiv h).symm j)
  rw [← h2]
  simp only [View.read_apply, View.emb_reshape]
  simp

section Ops

variable (c : Dev nD) {α : Type} {Q : α → sProp (MT nD τ sig Unit (Elt F) ℕ UU ℕ)}

/-- Loading a rectangle of a memref: its slice is read, at any share. -/
theorem wp_load_has {s : Shape} {e : EltTy} (M : Memref sig .tc .vmem s e) (r : Rect s) (h : ∀ a, r.stride a = 1)
    (hl : M.view.LoadsAt r.toLoadRect) (q : PosShare TreeShare) (X : r.shape.Idx → Elt F e) {k : Vec F r.shape e → KProg F α} :
    has c (M.slice r h) q X ⊢ iprop((has c (M.slice r h) q X -∗ WP c (k X) Q)
      -∗ WP c ((Prog.lift (.load M r.toLoadRect hl) : KProg F (Vec F r.shape e)) >>= k) Q) := by
  unfold has owns
  iintro ⟨%f, %hf, H⟩ Hk
  subst hf
  simp only [Prog.lift, Prog.bind_op, Prog.bind_ret]
  iapply (wp_load_rect 𝒱₀ (c : Thread nD τ) none Set.univ (m := M) (r := r) (Finset.Subset.refl _)) $$ H
  iintro H
  iapply Hk
  iexists f
  isplitr
  · ipureintro; rfl
  iexact H

/-- Storing a rectangle of a memref: its slice, owned in full, holds what was stored. -/
theorem wp_store_has {s : Shape} {e : EltTy} (M : Memref sig .tc .vmem s e) (r : Rect s) (h : ∀ a, r.stride a = 1)
    (w : Vec F r.shape e) (hx : (M.access r).Stores Finset.univ) (hm) {k : PUnit → KProg F α} :
    holds (F := F) c (M.slice r h) ⊢ iprop((has c (M.slice r h) fullShare w -∗ WP c (k ⟨⟩) Q)
      -∗ WP c ((Prog.lift (.store M r w Finset.univ hx hm) : KProg F PUnit) >>= k) Q) := by
  unfold holds has owns
  iintro ⟨%X, %f, %hf, H⟩ Hk
  simp only [Prog.lift, Prog.bind_op, Prog.bind_ret]
  iapply (wp_store 𝒱₀ (c : Thread nD τ) none Set.univ (m := M) (r := r) (Mk := Finset.univ) (S := (M.access r).set) (by rw [View.setOn_univ])) $$ H
  iintro H
  iapply Hk
  iexists _
  isplitr
  rotate_left
  · iexact H
  · ipureintro; exact View.read_write_univ ..

/-- Storing over a slot after a read that is dropped. -/
theorem wp_put (ch : Fin 2) (e : Fin 12) (w : Vec F S1x64x512 .bf16) {k : PUnit → KProg F α} :
    holds (F := F) c (sSl ch e) ⊢ iprop((has c (sSl ch e) fullShare w -∗ WP c (k ⟨⟩) Q) -∗ WP c (put ch e w >>= k) Q) := by
  iintro ⟨%X, H⟩ Hk
  unfold put
  simp only [bind_assoc]
  unfold ld st
  iapply (wp_load_has c (sB ch) (slotR e) (fun _ => rfl) _ fullShare X) $$ H
  iintro H
  iapply (wp_store_has c (sB ch) (slotR e) (fun _ => rfl) w) $$ [H]
  · iexists X; iexact H
  iexact Hk

theorem wp_ld (M : Memref sig .tc .vmem S12x64x512 .bf16) (e : Fin 12) (q : PosShare TreeShare) (X : Vec F S1x64x512 .bf16)
    {k : Vec F S1x64x512 .bf16 → KProg F α} :
    has c (M.slice (slotR e) (fun _ => rfl)) q X
      ⊢ iprop((has c (M.slice (slotR e) (fun _ => rfl)) q X -∗ WP c (k X) Q) -∗ WP c (ld M e >>= k) Q) := by
  unfold ld; exact wp_load_has c M (slotR e) (fun _ => rfl) _ q X

theorem wp_ldIn (l : Fin 3) (X : Vec F S1x512x1024 .f32) {k : Vec F S1x512x1024 .f32 → KProg F α} :
    has c (wiSl l) fullShare X ⊢ iprop((has c (wiSl l) fullShare X -∗ WP c (k X) Q) -∗ WP c (ldIn l >>= k) Q) := by
  unfold ldIn; exact wp_load_has c winB (winR l) (fun _ => rfl) _ fullShare X

theorem wp_ldOut (l : Fin 3) (X : Vec F S1x1024x512 .f32) {k : Vec F S1x1024x512 .f32 → KProg F α} :
    has c (woSl l) fullShare X ⊢ iprop((has c (woSl l) fullShare X -∗ WP c (k X) Q) -∗ WP c (ldOut l >>= k) Q) := by
  unfold ldOut; exact wp_load_has c woutB (woutR l) (fun _ => rfl) _ fullShare X

theorem full_zero : (![0, 0] : Fin 2 → Nat) = fun _ => 0 := funext fun a => by fin_cases a <;> rfl

/-- Reading the staged activations. -/
theorem wp_ldX (f : (cc0_stg0_0 : Ref sig .tc).ty.Contents (Elt F)) {k : Vec F S64x512 .f32 → KProg F α} :
    ((c : Thread nD τ).loc cc0_stg0_0 ↦{fullShare} f : sProp 𝕄)
      ⊢ iprop((((c : Thread nD τ).loc cc0_stg0_0 ↦{fullShare} f) -∗ WP c (k f) Q) -∗ WP c (ldX >>= k) Q) := by
  iintro H Hk
  unfold ldX
  simp only [Prog.lift, Prog.bind_op, Prog.bind_ret]
  iapply (wp_load 𝒱₀ (c : Thread nD τ) none Set.univ (m := xB) (Finset.subset_univ _)) $$ H
  iintro H
  rw [show xB.view.readAt (Elt F) fullR.toLoadRect f = f from Memref.readAt_unit_zero (Elt F) cc0_stg0_0 full_zero _ f]
  iapply Hk; iexact H

/-- Writing the staged result. -/
theorem wp_putOut (f : (cc0_stg1_0 : Ref sig .tc).ty.Contents (Elt F)) (w : FVec F S64x512 .f32) {k : PUnit → KProg F α} :
    ((c : Thread nD τ).loc cc0_stg1_0 ↦{fullShare} f : sProp 𝕄)
      ⊢ iprop((((c : Thread nD τ).loc cc0_stg1_0 ↦{fullShare} w) -∗ WP c (k ⟨⟩) Q) -∗ WP c (putOut w >>= k) Q) := by
  iintro H Hk
  unfold putOut
  simp only [Prog.lift, Prog.bind_op, Prog.bind_ret]
  iapply (wp_load 𝒱₀ (c : Thread nD τ) none Set.univ (m := outB) (Finset.subset_univ _)) $$ H
  iintro H
  iapply (wp_store 𝒱₀ (c : Thread nD τ) none Set.univ (m := outB) (r := fullR) (Mk := Finset.univ) (Finset.subset_univ _)) $$ H
  iintro H
  rw [show (outB.access fullR).write (Elt F) f w Finset.univ = w from
    Memref.write_access_unit_zero_univ (Elt F) cc0_stg1_0 full_zero _ f w]
  iapply Hk; iexact H

end Ops

end Cert.KernelIdeal.Hyper

end
-- ==== Proof.Sync.lean ====
module

public import proofs.«01_k».proof.Proof.Rules
public import Idealize.ShloMosaic.Lib.MemrefSat

/-! # Copies, waits and signals

The rules of the operations that move resources between devices or cells. Every one reads the records `records P K`
and, if it waits, the levels. A cell whose one round is over is closed at once: its counter is zero for good. -/

@[expose] public section

set_option maxRecDepth 65536

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The tokens and positions of exchange `e` of a chain on device `c`: its two duties to pay, its credit on its landing
cell, its positions on its landing and sending cells. -/
def toks (ch : Fin 2) (e : Fin 12) (c : Dev nD) : sProp 𝕄 :=
  iprop(dutyTok ER (kcell (c, kSnd ch e)) 0 0 ∗ dutyTok ER (dstCell ch e c) 0 0
    ∗ cred (tallyAt (kcell (c, kRcv ch e)) () N) ∗ atPos ER (kcell (c, kRcv ch e)) 0 ∅ 0 ∗ atPos ER (kcell (c, kSnd ch e)) 0 ∅ 0)

/-- What the send of exchange `e` needs beside the slot it reads: the partner's landing slot and the tokens. -/
def rest (ch : Fin 2) (e : Fin 12) (c : Dev nD) : sProp 𝕄 :=
  iprop(holds (F := F) (ptn (kof e) c) (rSl ch e) ∗ toks (F := F) ch e c)

/-- Device `c` owes `O`. -/
def owesW (c : Dev nD) (O : CellTallies nD τ sig Unit) : sProp 𝕄 := iprop(∃ W, owes (c : Thread nD τ) O W)

variable (P : Inputs F)

/-- The state of an exchange whose send is in flight. -/
def sent (ch : Fin 2) (e : Fin 12) (c : Dev nD) : sProp 𝕄 :=
  iprop(has c (sSl ch e) fullShare.left (P.sv ch e c)
    ∗ cred (tallyAt (kcell (c, kRcv ch e)) () N) ∗ atPos ER (kcell (c, kRcv ch e)) 0 ∅ 0
    ∗ cred (tallyAt (kcell (c, kSnd ch e)) () N) ∗ atPos ER (kcell (c, kSnd ch e)) 0 ∅ 0)

/-- The state of an exchange whose landing slot has been taken. -/
def taken (ch : Fin 2) (e : Fin 12) (c : Dev nD) : sProp 𝕄 :=
  iprop(has c (sSl ch e) fullShare.left (P.sv ch e c) ∗ has c (rSl ch e) fullShare (P.sv ch e (ptn (kof e) c))
    ∗ semVal (kcell (c, kRcv ch e)) 0
    ∗ cred (tallyAt (kcell (c, kSnd ch e)) () N) ∗ atPos ER (kcell (c, kSnd ch e)) 0 ∅ 0)

/-- The state of an exchange that is over. -/
def over (ch : Fin 2) (e : Fin 12) (c : Dev nD) : sProp 𝕄 :=
  iprop(holds (F := F) c (sSl ch e) ∗ holds (F := F) c (rSl ch e)
    ∗ semVal (kcell (c, kRcv ch e)) 0 ∗ semVal (kcell (c, kSnd ch e)) 0)

section Ops

variable (K : Dev nD × Ck → ℕ) (c : Dev nD) {α : Type} {Q : α → sProp (MT nD τ sig Unit (Elt F) ℕ UU ℕ)}

/-- A memref's elements are those of any squeezing of it. -/
theorem pts_squeeze {sp : Space} {s : Shape} {e : EltTy} (M : Memref sig .tc sp s e) (s' : Shape) (h : s.Squeezes s')
    (q : PosShare TreeShare) (f : M.view.ty.Contents (Elt F)) :
    ((M.squeeze s' h).view.loc (c : Thread nD τ) ↦[(M.squeeze s' h).view.set]{q} f : sProp 𝕄)
      = (M.view.loc (c : Thread nD τ) ↦[M.view.set]{q} f) := by
  have hs : (M.squeeze s' h).view.set = M.view.set := Memref.set_view_squeeze ..
  show (M.view.loc (c : Thread nD τ) ↦[(M.squeeze s' h).view.set]{q} f : sProp 𝕄) = _
  rw [hs]

/-- What a slot reads after a copy of another slot into it: what that slot reads. -/
theorem read_copied (M M' : Memref sig .tc .vmem S12x64x512 .bf16) (e : Fin 12) (fd : (slot M' e).view.ty.Contents (Elt F))
    (fs : (slot M e).view.ty.Contents (Elt F)) :
    (M'.slice (slotR e) (fun _ => rfl)).view.read (Elt F)
        ((slot M' e).view.write (Elt F) fd ((slot M e).view.read (Elt F) fs) Finset.univ)
      = (M.slice (slotR e) (fun _ => rfl)).view.read (Elt F) fs := by
  refine (read_write_reshape (F := F) (M'.slice (slotR e) (fun _ => rfl)).view S64x512
    squeezes_S1x64x512_S64x512.numel_eq fd _).trans ?_
  funext j
  show ((M.slice (slotR e) (fun _ => rfl)).view.reshape S64x512 squeezes_S1x64x512_S64x512.numel_eq).read (Elt F) fs _ = _
  simp only [View.read_apply, View.emb_reshape]
  simp

/-- An own cell's one duty. -/
theorem mem_own (d : Dev nD) (o : OC) : (0 : Fin 4) ∈ (rd P).duties (kcell (d, .inr o)) 0 := by
  rw [duties_at]; exact Finset.mem_singleton_self _

/-- The send of exchange `e`: the slot's other half goes with it, the landing slot is paid with what it holds. -/
theorem wp_send_ex (ch : Fin 2) (e : Fin 12) (n : Dev nD) (hn : n = ptn (kof e) c) {k : PUnit → KProg F α} :
    iprop(records P K ∗ has c (sSl ch e) fullShare (P.sv ch e c) ∗ rest (F := F) ch e c ∗ owesW (F := F) c (owedFrom (pos ch e) c))
      ⊢ iprop(((sent P ch e c ∗ owesW (F := F) c (owedFrom (pos ch e + 1) c)) -∗ WP c (k ⟨⟩) Q) -∗ WP c (send ch e n >>= k) Q) := by
  subst hn
  unfold rest toks sent owesW
  iintro ⟨#Hrec, Hs, ⟨Hd, Ht1, Ht2, Hc, Hp1, Hp2⟩, ⟨%W, Ho⟩⟩ Hk
  ihave Hs := (owns_halves (c : Thread nD τ) (sSl ch e) fullShare (P.sv ch e c)).1 $$ Hs
  icases Hs with ⟨Hl, Hr⟩
  unfold holds has owns
  icases Hr with ⟨%fs, %hfs, Hr⟩
  icases Hd with ⟨%X, %fd, %hfd, Hd⟩
  have hpay₁ : ((slot (sB ch) e).view.loc (c : Thread nD τ) ↦[(slot (sB ch) e).view.set]{fullShare.right} fs : sProp 𝕄)
      ⊢ (rd P).payload (kcell (c, kSnd ch e)) 0 0 := by
    rw [payload_at, pts_squeeze c]
    show _ ⊢ has c (sSl ch e) fullShare.right (P.sv ch e c)
    rw [← hfs]
    exact owns_intro _ _ _ _
  have hpay₂ : ((slot (rB ch) e).view.loc (ptn (kof e) c : Thread nD τ) ↦[(slot (rB ch) e).view.set]{fullShare}
        ((slot (rB ch) e).view.write (Elt F) fd ((slot (sB ch) e).view.read (Elt F) fs) Finset.univ) : sProp 𝕄)
      ⊢ (rd P).payload (dstCell ch e c) 0 0 := by
    rw [payload_at, pts_squeeze]
    show _ ⊢ has (ptn (kof e) c) (rSl ch e) fullShare (P.sv ch e (ptn (kof e) (ptn (kof e) c)))
    rw [ptn_ptn, ← hfs, ← read_copied (sB ch) (rB ch) e fd fs]
    exact owns_intro _ _ _ _
  unfold send
  simp only [Prog.lift, Prog.bind_op, Prog.bind_ret]
  iapply (Rounds.wp_send_pointsTo 𝒱₀ ER (rd P) (c : Thread nD τ) none (κ₁ := K (c, kSnd ch e)) (κ₂ := K (ptn (kof e) c, kRcv ch e))
    (c' := (ptn (kof e) c : Thread nD τ)) (src := slot (sB ch) e) (dst := slot (rB ch) e)
    (sS := .dma (semAt (sS ch) e)) (sem := .dma (semAt (rS ch) e))
    (q := fullShare.right) (fs := fs) (r₁ := 0) (r₂ := 0) (d₁ := 0) (d₂ := 0) (fd := fd)
    (mem_own P c (.inl (ch, e))) (mem_own P (ptn (kof e) c) (.inr (.inl (ch, e))))
    () () N (N_rcv ch e) (amount_at P c (kSnd ch e) 0) (amount_at P (ptn (kof e) c) (kRcv ch e) 0)
    (owedFrom (pos ch e + 1) c) (owedFrom_peel ch e c) (W := W) hpay₁ hpay₂)
    $$ [Hr Hd Ho Ht1 Ht2]
  · isplitr; · iapply (records_inv P K c (kSnd ch e)); iexact Hrec
    isplitr; · iapply (records_inv P K (ptn (kof e) c) (kRcv ch e)); iexact Hrec
    isplitl [Hr]; · rw [pts_squeeze c]; iexact Hr
    isplitl [Hd]; · rw [pts_squeeze]; iexact Hd
    isplitl [Ho]; · iexact Ho
    isplitl [Ht1]; · iexact Ht1
    isplitr; · iapply (records_reached P K c (kSnd ch e)); iexact Hrec
    isplitl [Ht2]; · iexact Ht2
    iapply (records_reached P K (ptn (kof e) c) (kRcv ch e)); iexact Hrec
  iintro ⟨Hcs, Ho⟩
  iapply Hk
  isplitr [Ho]
  · isplitl [Hl]; · iexact Hl
    isplitl [Hc]; · iexact Hc
    isplitl [Hp1]; · iexact Hp1
    isplitl [Hcs]; · iexact Hcs
    iexact Hp2
  iexists W; iexact Ho

/-- A wait on one of the kernel's own cells: the cell's payload, and the cell closed. -/
theorem wp_wait_own (o : OC) (w : TpuEff nD τ sig (Elt F) Λ₀ .tc PUnit)
    (hw : ∀ Kt : PUnit → sProp 𝕄, wpE (defs₀ (F := F)) 𝒱₀ (c : Thread nD τ) none Set.univ w Kt
      = waitSpec (c : Thread nD τ) Set.univ (csem (.inr o)) (amtOf (.inr o)) Kt)
    (p : ℕ) (hp : lvOf (.inr o) < 2 + p) {k : PUnit → KProg F α} :
    iprop(records P K ∗ levAts L lv ∗ cred (tallyAt (kcell (c, .inr o)) () (amtOf (.inr o))) ∗ owesW (F := F) c (owedFrom p c)
        ∗ atPos ER (kcell (c, .inr o)) 0 ∅ 0)
      ⊢ iprop(((owesW (F := F) c (owedFrom p c) ∗ semVal (kcell (c, .inr o)) 0 ∗ payOf P c (.inr o) 0) -∗ WP c (k ⟨⟩) Q)
        -∗ WP c (.op w k) Q) := by
  unfold owesW
  iintro ⟨#Hrec, #Hlev, Hc, ⟨%W, Ho⟩, Hp⟩ Hk
  iapply (Rounds.wp_wait_rest_token 𝒱₀ ER (rd P) (c : Thread nD τ) none (κ := K (c, .inr o)) hw (Set.mem_univ _) ()
    (O := owedFrom p c) (W := W) (R := 0) (m := 0) (T := ∅) ((Nat.zero_add _).trans (expect_own P c o).symm)) $$ [Hc Ho Hp]
  · isplitr; · iapply (records_inv P K c (.inr o)); iexact Hrec
    isplitl [Hc]; · iexact Hc
    isplitl [Ho]; · iexact Ho
    isplitr
    · iapply (mayWait_from (F := F) c (csem (.inr o)) p (by rw [lv_at c (.inr o)]; exact hp)); iexact Hlev
    iexact Hp
  iintro ⟨Ho, Hp, -, Hpay⟩
  ihave Hpay := (Entails.of_eq (rest_own P c o)) $$ Hpay
  imod (Rounds.cell_close ER (rd P) (Set.mem_univ (K (c, .inr o))) (fun h => h) (R := 0 + 1) (duties_later P (kcell (c, .inr o)))) $$ [Hp] with Hz
  · isplitr; · iapply (records_inv P K c (.inr o)); iexact Hrec
    iexact Hp
  iapply Hk
  isplitl [Ho]; · iexists _; iexact Ho
  isplitl [Hz]; · iexact Hz
  iexact Hpay

end Ops

end Cert.KernelIdeal.Hyper

end
-- ==== Proof.Steps.lean ====
module

public import proofs.«01_k».proof.Proof.Sync

/-! # The body's steps

One rule for each named step of the body: the waits, one exchange, the weights' copies, the signals and the barrier. -/

@[expose] public section

set_option maxRecDepth 65536

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Inputs F)

/-- A weight's copy before it starts: its slot, its array, its duty and its position; -/
def inIdle (l : Fin 3) (c : Dev nD) : sProp 𝕄 :=
  iprop(holds (F := F) c (wiSl l) ∗ has c (winA l) fullShare (P.wa l c)
    ∗ dutyTok ER (kcell (c, kIn l)) 0 0 ∗ atPos ER (kcell (c, kIn l)) 0 ∅ 0)
def outIdle (l : Fin 3) (c : Dev nD) : sProp 𝕄 :=
  iprop(holds (F := F) c (woSl l) ∗ has c (woutA l) fullShare (P.wb l c)
    ∗ dutyTok ER (kcell (c, kOut l)) 0 0 ∗ atPos ER (kcell (c, kOut l)) 0 ∅ 0)
/-- in flight; -/
def inFlight (l : Fin 3) (c : Dev nD) : sProp 𝕄 :=
  iprop(cred (tallyAt (kcell (c, kIn l)) () NI) ∗ atPos ER (kcell (c, kIn l)) 0 ∅ 0)
def outFlight (l : Fin 3) (c : Dev nD) : sProp 𝕄 :=
  iprop(cred (tallyAt (kcell (c, kOut l)) () NO) ∗ atPos ER (kcell (c, kOut l)) 0 ∅ 0)
/-- done. -/
def inDone (l : Fin 3) (c : Dev nD) : sProp 𝕄 :=
  iprop(has c (wiSl l) fullShare (P.wi l c) ∗ has c (winA l) fullShare (P.wa l c) ∗ semVal (kcell (c, kIn l)) 0)
def outDone (l : Fin 3) (c : Dev nD) : sProp 𝕄 :=
  iprop(has c (woSl l) fullShare (P.wo l c) ∗ has c (woutA l) fullShare (P.wb l c) ∗ semVal (kcell (c, kOut l)) 0)

section Ops

variable (K : Dev nD × Ck → ℕ) (c : Dev nD) {α : Type} {Q : α → sProp (MT nD τ sig Unit (Elt F) ℕ UU ℕ)}

/-! ## Waits -/

/-- The wait for the partner's copy. -/
theorem wp_waitR (ch : Fin 2) (e : Fin 12) (p : ℕ) (hp : pos ch e < p) {k : PUnit → KProg F α} :
    iprop(records P K ∗ levAts L lv ∗ sent P ch e c ∗ owesW (F := F) c (owedFrom p c))
      ⊢ iprop(((taken P ch e c ∗ owesW (F := F) c (owedFrom p c)) -∗ WP c (k ⟨⟩) Q) -∗ WP c (waitR ch e >>= k) Q) := by
  unfold sent
  iintro ⟨#Hrec, #Hlev, ⟨Hl, Hc, Hp1, Hcs, Hp2⟩, Ho⟩ Hk
  unfold waitR
  simp only [Prog.lift, Prog.bind_op, Prog.bind_ret]
  iapply (wp_wait_own P K c (.inr (.inl (ch, e))) _
    (fun Kt => (wpE_waitDma2_eq 𝒱₀ (c : Thread nD τ) none Set.univ Kt).trans (by rw [N_rcv]; rfl)) p
    (by show 2 + pos ch e < 2 + p; omega)) $$ [Hc Ho Hp1]
  · isplitr; · iexact Hrec
    isplitr; · iexact Hlev
    isplitl [Hc]; · iexact Hc
    isplitl [Ho]; · iexact Ho
    iexact Hp1
  iintro ⟨Ho, Hz, Hpay⟩
  iapply Hk
  isplitr [Ho]
  · unfold taken
    isplitl [Hl]; · iexact Hl
    isplitl [Hpay]
    · iapply (Entails.of_eq (show payOf P c (kRcv ch e) 0 = has c (rSl ch e) fullShare (P.sv ch e (ptn (kof e) c)) from rfl))
      iexact Hpay
    isplitl [Hz]; · iexact Hz
    isplitl [Hcs]; · iexact Hcs
    iexact Hp2
  iexact Ho

/-- The wait for one's own copy to have left: the slot is whole again, and the exchange is over. -/
theorem wp_waitS (ch : Fin 2) (e : Fin 12) (p : ℕ) {k : PUnit → KProg F α} :
    iprop(records P K ∗ levAts L lv ∗ taken P ch e c ∗ owesW (F := F) c (owedFrom p c))
      ⊢ iprop(((over (F := F) ch e c ∗ owesW (F := F) c (owedFrom p c)) -∗ WP c (k ⟨⟩) Q) -∗ WP c (waitS ch e >>= k) Q) := by
  unfold taken
  iintro ⟨#Hrec, #Hlev, ⟨Hl, Hr, Hz1, Hcs, Hp2⟩, Ho⟩ Hk
  unfold waitS
  simp only [Prog.lift, Prog.bind_op, Prog.bind_ret]
  iapply (wp_wait_own P K c (.inl (ch, e)) _
    (fun Kt => (wpE_waitDma2_eq 𝒱₀ (c : Thread nD τ) none Set.univ Kt).trans (by rw [N_snd]; rfl)) p
    (by show 0 < 2 + p; omega)) $$ [Hcs Ho Hp2]
  · isplitr; · iexact Hrec
    isplitr; · iexact Hlev
    isplitl [Hcs]; · iexact Hcs
    isplitl [Ho]; · iexact Ho
    iexact Hp2
  iintro ⟨Ho, Hz2, Hpay⟩
  iapply Hk
  isplitr [Ho]
  · unfold over holds
    isplitl [Hl Hpay]
    · iexists (P.sv ch e c)
      iapply (owns_halves (c : Thread nD τ) (sSl ch e) fullShare (P.sv ch e c)).2
      isplitl [Hl]; · iexact Hl
      iapply (Entails.of_eq (show payOf P c (kSnd ch e) 0 = has c (sSl ch e) fullShare.right (P.sv ch e c) from rfl))
      iexact Hpay
    isplitl [Hr]; · iexists _; iexact Hr
    isplitl [Hz1]; · iexact Hz1
    iexact Hz2
  iexact Ho

/-! ## One exchange -/

/-- An exchange within a layer: what came is added to what was sent, and the sum is sent on. -/
theorem wp_step (ch : Fin 2) (l : Fin 3) (i j : Fin 4) (hij : j.val = i.val + 1) (n : Dev nD) (hn : n = ptn j c)
    (p : ℕ) (hp : p = pos ch (ix l j)) {k : PUnit → KProg F α} :
    iprop(records P K ∗ levAts L lv ∗ sent P ch (ix l i) c ∗ holds (F := F) c (sSl ch (ix l j)) ∗ rest (F := F) ch (ix l j) c
        ∗ owesW (F := F) c (owedFrom p c))
      ⊢ iprop(((taken P ch (ix l i) c ∗ sent P ch (ix l j) c ∗ owesW (F := F) c (owedFrom (p + 1) c)) -∗ WP c (k ⟨⟩) Q)
        -∗ WP c (step ch (ix l i) (ix l j) n >>= k) Q) := by
  subst hp
  iintro ⟨#Hrec, #Hlev, Hs, Hh, Hr, Ho⟩ Hk
  unfold step
  simp only [bind_assoc]
  iapply (wp_waitR P K c ch (ix l i) (pos ch (ix l j)) (by unfold pos ix; dsimp only; omega)) $$ [Hs Ho]
  · isplitr; · iexact Hrec
    isplitr; · iexact Hlev
    isplitl [Hs]; · iexact Hs
    iexact Ho
  iintro ⟨Ht, Ho⟩
  unfold taken
  icases Ht with ⟨Hl, Hd, Hz, Hc, Hp⟩
  iapply (wp_ld c (sB ch) (ix l i)) $$ Hl
  iintro Hl
  iapply (wp_ld c (rB ch) (ix l i)) $$ Hd
  iintro Hd
  rw [kof_ix, ← P.sv_next ch l c i j hij]
  iapply (wp_put c ch (ix l j)) $$ Hh
  iintro Hh
  iapply (wp_send_ex P K c ch (ix l j) n (by rw [kof_ix]; exact hn)) $$ [Hh Hr Ho]
  · isplitr; · iexact Hrec
    isplitl [Hh]; · iexact Hh
    isplitl [Hr]; · iexact Hr
    iexact Ho
  iintro ⟨Hs, Ho⟩
  iapply Hk
  isplitl [Hl Hd Hz Hc Hp]
  · isplitl [Hl]; · iexact Hl
    isplitl [Hd]; · iexact Hd
    isplitl [Hz]; · iexact Hz
    isplitl [Hc]; · iexact Hc
    iexact Hp
  isplitl [Hs]; · iexact Hs
  iexact Ho

/-- The last exchange of a layer: both values are read. -/
theorem wp_last (ch : Fin 2) (l : Fin 3) (p : ℕ) (hp : pos ch (ix l 3) < p)
    {k : Vec F S1x64x512 .bf16 × Vec F S1x64x512 .bf16 → KProg F α} :
    iprop(records P K ∗ levAts L lv ∗ sent P ch (ix l 3) c ∗ owesW (F := F) c (owedFrom p c))
      ⊢ iprop(((taken P ch (ix l 3) c ∗ owesW (F := F) c (owedFrom p c))
          -∗ WP c (k (P.sv ch (ix l 3) c, P.sv ch (ix l 3) (ptn 3 c))) Q) -∗ WP c (last ch (ix l 3) >>= k) Q) := by
  iintro ⟨#Hrec, #Hlev, Hs, Ho⟩ Hk
  unfold last
  simp only [bind_assoc]
  iapply (wp_waitR P K c ch (ix l 3) p hp) $$ [Hs Ho]
  · isplitr; · iexact Hrec
    isplitr; · iexact Hlev
    isplitl [Hs]; · iexact Hs
    iexact Ho
  iintro ⟨Ht, Ho⟩
  unfold taken
  icases Ht with ⟨Hl, Hd, Hz, Hc, Hp⟩
  iapply (wp_ld c (sB ch) (ix l 3)) $$ Hl
  iintro Hl
  iapply (wp_ld c (rB ch) (ix l 3)) $$ Hd
  iintro Hd
  rw [kof_ix]
  simp only [pure_bind]
  iapply Hk
  isplitr [Ho]
  · isplitl [Hl]; · iexact Hl
    isplitl [Hd]; · iexact Hd
    isplitl [Hz]; · iexact Hz
    isplitl [Hc]; · iexact Hc
    iexact Hp
  iexact Ho

/-! ## The weights -/

/-- A whole array's elements are what it holds. -/
theorem read_win (l : Fin 3) (fd : (winSlot l).view.ty.Contents (Elt F)) (w : S512x1024.Idx → Elt F .f32) :
    (wiSl l).view.read (Elt F) ((winSlot l).view.write (Elt F) fd w Finset.univ) = fun j => w (unsqI j) :=
  read_write_reshape (wiSl l).view S512x1024 squeezes_S1x512x1024_S512x1024.numel_eq fd w
theorem read_wout (l : Fin 3) (fd : (woutSlot l).view.ty.Contents (Elt F)) (w : S1024x512.Idx → Elt F .f32) :
    (woSl l).view.read (Elt F) ((woutSlot l).view.write (Elt F) fd w Finset.univ) = fun j => w (unsqO j) :=
  read_write_reshape (woSl l).view S1024x512 squeezes_S1x1024x512_S1024x512.numel_eq fd w

/-- Starting the copy of a first weight. -/
theorem wp_cpIn (l : Fin 3) {k : PUnit → KProg F α} :
    iprop(records P K ∗ inIdle P l c) ⊢ iprop((inFlight (F := F) l c -∗ WP c (k ⟨⟩) Q) -∗ WP c (cpIn l >>= k) Q) := by
  unfold inIdle inFlight holds has owns
  iintro ⟨#Hrec, ⟨%X, %fd, %hfd, Hd⟩, ⟨%fs, %hfs, Hs⟩, Ht, Hp⟩ Hk
  have hpay : iprop(((winSlot l).view.loc (c : Thread nD τ) ↦[(winSlot l).view.set]{fullShare}
        ((winSlot l).view.write (Elt F) fd ((winA l).view.read (Elt F) fs) Finset.univ))
        ∗ ((winA l).view.loc (c : Thread nD τ) ↦[(winA l).view.set]{fullShare} fs))
      ⊢ (rd P).payload (kcell (c, kIn l)) 0 0 := by
    rw [payload_at, pts_squeeze c, hfs]
    refine BIBase.Entails.trans ?_ (Entails.of_eq (show iprop(has c (wiSl l) fullShare (P.wi l c) ∗ has c (winA l) fullShare (P.wa l c))
      = payOf P c (kIn l) 0 from rfl))
    iintro ⟨H1, H2⟩
    isplitl [H1]
    · ihave H1 := (owns_intro (c : Thread nD τ) (wiSl l) fullShare _) $$ H1
      rw [read_win]
      iexact H1
    · rw [← hfs]
      iapply (owns_intro (c : Thread nD τ) (winA l) fullShare fs); iexact H2
  unfold cpIn
  simp only [Prog.lift, Prog.bind_op, Prog.bind_ret]
  iapply (Rounds.wp_copy_pointsTo 𝒱₀ ER (rd P) (c : Thread nD τ) none (κ := K (c, kIn l)) (src := winA l) (dst := winSlot l)
    (sem := .dma (wsemAt cc0_scratch10 l)) (q := fullShare) (fs := fs) (fd := fd) (r := 0) (d := 0)
    (mem_own P c (.inr (.inr (.inl l)))) () NI (N_in l) (amount_at P c (kIn l) 0) hpay) $$ [Hd Hs Ht]
  · isplitr; · iapply (records_inv P K c (kIn l)); iexact Hrec
    isplitl [Hs]; · iexact Hs
    isplitl [Hd]; · rw [pts_squeeze c]; iexact Hd
    isplitl [Ht]; · iexact Ht
    iapply (records_reached P K c (kIn l)); iexact Hrec
  iintro Hc
  iapply Hk
  isplitl [Hc]; · iexact Hc
  iexact Hp

/-- Starting the copy of a second weight. -/
theorem wp_cpOut (l : Fin 3) {k : PUnit → KProg F α} :
    iprop(records P K ∗ outIdle P l c) ⊢ iprop((outFlight (F := F) l c -∗ WP c (k ⟨⟩) Q) -∗ WP c (cpOut l >>= k) Q) := by
  unfold outIdle outFlight holds has owns
  iintro ⟨#Hrec, ⟨%X, %fd, %hfd, Hd⟩, ⟨%fs, %hfs, Hs⟩, Ht, Hp⟩ Hk
  have hpay : iprop(((woutSlot l).view.loc (c : Thread nD τ) ↦[(woutSlot l).view.set]{fullShare}
        ((woutSlot l).view.write (Elt F) fd ((woutA l).view.read (Elt F) fs) Finset.univ))
        ∗ ((woutA l).view.loc (c : Thread nD τ) ↦[(woutA l).view.set]{fullShare} fs))
      ⊢ (rd P).payload (kcell (c, kOut l)) 0 0 := by
    rw [payload_at, pts_squeeze c, hfs]
    refine BIBase.Entails.trans ?_ (Entails.of_eq (show iprop(has c (woSl l) fullShare (P.wo l c) ∗ has c (woutA l) fullShare (P.wb l c))
      = payOf P c (kOut l) 0 from rfl))
    iintro ⟨H1, H2⟩
    isplitl [H1]
    · ihave H1 := (owns_intro (c : Thread nD τ) (woSl l) fullShare _) $$ H1
      rw [read_wout]
      iexact H1
    · rw [← hfs]
      iapply (owns_intro (c : Thread nD τ) (woutA l) fullShare fs); iexact H2
  unfold cpOut
  simp only [Prog.lift, Prog.bind_op, Prog.bind_ret]
  iapply (Rounds.wp_copy_pointsTo 𝒱₀ ER (rd P) (c : Thread nD τ) none (κ := K (c, kOut l)) (src := woutA l) (dst := woutSlot l)
    (sem := .dma (wsemAt cc0_scratch11 l)) (q := fullShare) (fs := fs) (fd := fd) (r := 0) (d := 0)
    (mem_own P c (.inr (.inr (.inr l)))) () NO (N_out l) (amount_at P c (kOut l) 0) hpay) $$ [Hd Hs Ht]
  · isplitr; · iapply (records_inv P K c (kOut l)); iexact Hrec
    isplitl [Hs]; · iexact Hs
    isplitl [Hd]; · rw [pts_squeeze c]; iexact Hd
    isplitl [Ht]; · iexact Ht
    iapply (records_reached P K c (kOut l)); iexact Hrec
  iintro Hc
  iapply Hk
  isplitl [Hc]; · iexact Hc
  iexact Hp

/-- The wait for a first weight. -/
theorem wp_waitIn (l : Fin 3) (p : ℕ) {k : PUnit → KProg F α} :
    iprop(records P K ∗ levAts L lv ∗ inFlight (F := F) l c ∗ owesW (F := F) c (owedFrom p c))
      ⊢ iprop(((inDone P l c ∗ owesW (F := F) c (owedFrom p c)) -∗ WP c (k ⟨⟩) Q) -∗ WP c (waitIn l >>= k) Q) := by
  unfold inFlight inDone
  iintro ⟨#Hrec, #Hlev, ⟨Hc, Hp⟩, Ho⟩ Hk
  unfold waitIn
  simp only [Prog.lift, Prog.bind_op, Prog.bind_ret]
  iapply (wp_wait_own P K c (.inr (.inr (.inl l))) _
    (fun Kt => (wpE_waitDma2_eq 𝒱₀ (c : Thread nD τ) none Set.univ Kt).trans (by rw [N_in]; rfl)) p
    (by show 0 < 2 + p; omega)) $$ [Hc Ho Hp]
  · isplitr; · iexact Hrec
    isplitr; · iexact Hlev
    isplitl [Hc]; · iexact Hc
    isplitl [Ho]; · iexact Ho
    iexact Hp
  iintro ⟨Ho, Hz, Hpay⟩
  ihave Hpay := (Entails.of_eq (show payOf P c (kIn l) 0
    = iprop(has c (wiSl l) fullShare (P.wi l c) ∗ has c (winA l) fullShare (P.wa l c)) from rfl)) $$ Hpay
  icases Hpay with ⟨H1, H2⟩
  iapply Hk
  isplitr [Ho]
  · isplitl [H1]; · iexact H1
    isplitl [H2]; · iexact H2
    iexact Hz
  iexact Ho

/-- The wait for a second weight. -/
theorem wp_waitOut (l : Fin 3) (p : ℕ) {k : PUnit → KProg F α} :
    iprop(records P K ∗ levAts L lv ∗ outFlight (F := F) l c ∗ owesW (F := F) c (owedFrom p c))
      ⊢ iprop(((outDone P l c ∗ owesW (F := F) c (owedFrom p c)) -∗ WP c (k ⟨⟩) Q) -∗ WP c (waitOut l >>= k) Q) := by
  unfold outFlight outDone
  iintro ⟨#Hrec, #Hlev, ⟨Hc, Hp⟩, Ho⟩ Hk
  unfold waitOut
  simp only [Prog.lift, Prog.bind_op, Prog.bind_ret]
  iapply (wp_wait_own P K c (.inr (.inr (.inr l))) _
    (fun Kt => (wpE_waitDma2_eq 𝒱₀ (c : Thread nD τ) none Set.univ Kt).trans (by rw [N_out]; rfl)) p
    (by show 0 < 2 + p; omega)) $$ [Hc Ho Hp]
  · isplitr; · iexact Hrec
    isplitr; · iexact Hlev
    isplitl [Hc]; · iexact Hc
    isplitl [Ho]; · iexact Ho
    iexact Hp
  iintro ⟨Ho, Hz, Hpay⟩
  ihave Hpay := (Entails.of_eq (show payOf P c (kOut l) 0
    = iprop(has c (woSl l) fullShare (P.wo l c) ∗ has c (woutA l) fullShare (P.wb l c)) from rfl)) $$ Hpay
  icases Hpay with ⟨H1, H2⟩
  iapply Hk
  isplitr [Ho]
  · isplitl [H1]; · iexact H1
    isplitl [H2]; · iexact H2
    iexact Hz
  iexact Ho

/-! ## The barrier -/

/-- Signalling a partner hands it one's own landing slots of the exchanges with it. -/
theorem wp_signal_ex (i : Fin 4) (n : Dev nD) (hn : n = ptn i c) (p p' : ℕ) (hp : p = i.val) (hp' : p' = i.val + 1)
    {k : PUnit → KProg F α} :
    iprop(records P K ∗ dutyTok ER (kcell (ptn i c, kBar)) 0 i ∗ landing (F := F) i c ∗ owesW (F := F) c (owedSig p c))
      ⊢ iprop((owesW (F := F) c (owedSig p' c) -∗ WP c (k ⟨⟩) Q) -∗ WP c (semSignalWord n barS 1#32 >>= k) Q) := by
  subst hn hp hp'
  unfold owesW
  iintro ⟨#Hrec, Ht, Hl, ⟨%W, Ho⟩⟩ Hk
  simp only [semSignalWord, Prog.lift, Prog.bind_op, Prog.bind_ret]
  iapply (Rounds.wp_signal 𝒱₀ ER (rd P) (c : Thread nD τ) none (dst := (ptn i c : Thread nD τ)) (sem := barS) (κ := K (ptn i c, kBar))
    (r := 0) (d := i) (by
      have h := duties_at P (ptn i c) kBar
      exact h ▸ Finset.mem_univ i)
    ((amount_at P (ptn i c) kBar i).trans (by decide)) () (owedSig (i.val + 1) c) (owedSig_peel i c) (W := W)) $$ [Ht Hl Ho]
  · isplitr; · iapply (records_inv P K (ptn i c) kBar); iexact Hrec
    isplitl [Ho]; · iexact Ho
    isplitl [Ht]; · iexact Ht
    isplitl [Hl]
    · iapply (Entails.of_eq (show landing (F := F) i c = (rd P).payload ((ptn i c : Thread nD τ), SemLoc.reg barS) 0 i from
        ((payload_at P (ptn i c) kBar i).trans (show landing (F := F) i (ptn i (ptn i c)) = landing (F := F) i c by rw [ptn_ptn])).symm))
      iexact Hl
    iapply (records_reached P K (ptn i c) kBar); iexact Hrec
  iintro Ho
  iapply Hk
  iexists W; iexact Ho

/-- The barrier's wait: every partner's landing slots. -/
theorem wp_barrier {k : PUnit → KProg F α} :
    iprop(records P K ∗ levAts L lv ∗ cred (tallyAt (kcell (c, kBar)) () 4) ∗ atPos ER (kcell (c, kBar)) 0 ∅ 0
        ∗ owesW (F := F) c (owedFrom 0 c))
      ⊢ iprop(((owesW (F := F) c (owedFrom 0 c) ∗ semVal (kcell (c, kBar)) 0
          ∗ bigSep Finset.univ fun i : Fin 4 => landing (F := F) i (ptn i c)) -∗ WP c (k ⟨⟩) Q)
        -∗ WP c (semWaitWord barS 4#32 >>= k) Q) := by
  unfold owesW
  iintro ⟨#Hrec, #Hlev, Hc, Hp, ⟨%W, Ho⟩⟩ Hk
  simp only [semWaitWord, Prog.lift, Prog.bind_op, Prog.bind_ret]
  iapply (Rounds.wp_wait_rest_token 𝒱₀ ER (rd P) (c : Thread nD τ) none (sm := .reg barS) (κ := K (c, kBar))
    (wpE_semWait_eq 𝒱₀ (c : Thread nD τ) none Set.univ) (Set.mem_univ _) ()
    (O := owedFrom 0 c) (W := W) (R := 0) (m := 0) (T := ∅)
    ((show 0 + (4#32).toNat = 4 * 1 by decide).trans (expect_at P c kBar).symm)) $$ [Hc Ho Hp]
  · isplitr; · iapply (records_inv P K c kBar); iexact Hrec
    isplitl [Hc]; · iexact Hc
    isplitl [Ho]; · iexact Ho
    isplitr
    · iapply (mayWait_from (F := F) c (csem kBar) 0 (by rw [lv_at c kBar]; decide)); iexact Hlev
    iexact Hp
  iintro ⟨Ho, Hp, -, Hpay⟩
  ihave Hpay := (Entails.of_eq (show (bigSep ((rd P).duties ((c : Thread nD τ), SemLoc.reg barS) 0 \ ∅)
      fun d => (rd P).payload ((c : Thread nD τ), SemLoc.reg barS) 0 d) = _ from rest_bar P c)) $$ Hpay
  imod (Rounds.cell_close ER (rd P) (Set.mem_univ (K (c, kBar))) (fun h => h) (R := 0 + 1) (duties_later P (kcell (c, kBar)))) $$ [Hp] with Hz
  · isplitr; · iapply (records_inv P K c kBar); iexact Hrec
    iexact Hp
  iapply Hk
  isplitl [Ho]; · iexists _; iexact Ho
  isplitl [Hz]; · iexact Hz
  iexact Hpay

end Ops

end Cert.KernelIdeal.Hyper

end
-- ==== Proof.Body.lean ====
module

public import proofs.«01_k».proof.Proof.Steps

/-! # The body of one device

The run of the whole body at a symbolic device: the exchange of a layer once, for every layer, and the body from it. -/

@[expose] public section

set_option maxRecDepth 65536

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the slots -/

/-- One resource per chain and exchange of layer `l`. -/
def quad (Φ : Fin 2 → Fin 12 → sProp 𝕄) (l : Fin 3) : sProp 𝕄 :=
  bigSep Finset.univ fun k : Fin 4 => bigSep Finset.univ fun ch : Fin 2 => Φ ch (ix l k)

/-- One per chain and exchange. -/
def fam (Φ : Fin 2 → Fin 12 → sProp 𝕄) : sProp 𝕄 := bigSep Finset.univ (quad Φ)

theorem bigSep_three (Φ : Fin 3 → sProp 𝕄) : bigSep Finset.univ Φ = iprop(Φ 0 ∗ Φ 1 ∗ Φ 2) := by
  rw [BI.bigSep_univ_eq_bigSepL [0, 1, 2] (by decide) (by decide)]; rfl

theorem bigSep_four (Φ : Fin 4 → sProp 𝕄) : bigSep Finset.univ Φ = iprop(Φ 0 ∗ Φ 1 ∗ Φ 2 ∗ Φ 3) := by
  rw [BI.bigSep_univ_eq_bigSepL [0, 1, 2, 3] (by decide) (by decide)]; rfl

theorem quad_eq (Φ : Fin 2 → Fin 12 → sProp 𝕄) (l : Fin 3) :
    quad Φ l = iprop((Φ 0 (ix l 0) ∗ Φ 1 (ix l 0)) ∗ (Φ 0 (ix l 1) ∗ Φ 1 (ix l 1)) ∗ (Φ 0 (ix l 2) ∗ Φ 1 (ix l 2))
      ∗ (Φ 0 (ix l 3) ∗ Φ 1 (ix l 3))) := by
  unfold quad
  rw [bigSep_four]; simp only [bigSep_univ_two]

theorem fam_eq (Φ : Fin 2 → Fin 12 → sProp 𝕄) : fam Φ = iprop(quad Φ 0 ∗ quad Φ 1 ∗ quad Φ 2) := bigSep_three _

theorem fam_sep (Φ Ψ : Fin 2 → Fin 12 → sProp 𝕄) : fam (fun ch e => iprop(Φ ch e ∗ Ψ ch e)) = iprop(fam Φ ∗ fam Ψ) := by
  unfold fam quad
  simp only [bigSep_sep']

/-- What the barrier brought, with a device's tokens: every exchange can start. -/
theorem rest_of (c : Dev nD) :
    iprop((bigSep Finset.univ fun i : Fin 4 => landing (F := F) i (ptn i c)) ∗ fam (fun ch e => toks (F := F) ch e c))
      ⊢ fam (fun ch e => rest (F := F) ch e c) := by
  have h : (bigSep Finset.univ fun i : Fin 4 => landing (F := F) i (ptn i c))
      = fam (fun ch e => holds (F := F) (ptn (kof e) c) (rSl ch e)) := by
    unfold landing fam quad
    rw [bigSep_univ_comm]
    simp only [kof_ix]
  rw [h]
  unfold rest
  rw [fam_sep]

variable (P : Inputs F) (K : Dev nD × Ck → ℕ) (c : Dev nD)

section Ops

variable {α : Type} {Q : α → sProp (MT nD τ sig Unit (Elt F) ℕ UU ℕ)}

/-- The device's own number. -/
theorem wp_device {k : Dev nD → KProg F α} : WP c (.op .deviceId k) Q = WP c (k c) Q := wp_deviceId ..

theorem WP_ret (a : α) : Q a ⊢ WP c (.ret a) Q := by
  iintro H
  rw [show WP c (.ret a) Q = _ from wp_ret ..]
  imodintro; iexact H

/-- The exchanges of a layer: from the first chain's partial product on, all eight copies are sent and taken. -/
theorem wp_exchange (l : Fin 3) (p1 : Vec F S1x64x512 .bf16) (hp1 : p1 = part 1 (P.xb l c) (P.wi l c))
    (p p' : ℕ) (hp : p = 8 * l.val) (hp' : p' = 8 * l.val + 8)
    {k : Vec F S1x1024x512 .f32 × (Vec F S1x64x512 .bf16 × Vec F S1x64x512 .bf16)
      × (Vec F S1x64x512 .bf16 × Vec F S1x64x512 .bf16) → KProg F α} :
    iprop(records P K ∗ levAts L lv ∗ has c (sSl 0 (ix l 0)) fullShare (part 0 (P.xb l c) (P.wi l c))
        ∗ holds (F := F) c (sSl 1 (ix l 0))
        ∗ ((holds (F := F) c (sSl 0 (ix l 1)) ∗ holds (F := F) c (sSl 1 (ix l 1)))
          ∗ (holds (F := F) c (sSl 0 (ix l 2)) ∗ holds (F := F) c (sSl 1 (ix l 2)))
          ∗ (holds (F := F) c (sSl 0 (ix l 3)) ∗ holds (F := F) c (sSl 1 (ix l 3))))
        ∗ quad (fun ch e => rest (F := F) ch e c) l ∗ outFlight (F := F) l c ∗ owesW (F := F) c (owedFrom p c))
      ⊢ iprop(((quad (fun ch e => taken P ch e c) l ∗ outDone P l c ∗ owesW (F := F) c (owedFrom p' c))
          -∗ WP c (k (P.lay (P.xb l) l c)) Q)
        -∗ WP c (exchange l (ix l 0) (ix l 1) (ix l 2) (ix l 3) p1 c >>= k) Q) := by
  subst hp1
  rw [quad_eq, quad_eq, ← P.sv_first, ← P.sv_first]
  iintro ⟨#Hrec, #Hlev, Hs00, Hs10, ⟨⟨Hs01, Hs11⟩, ⟨Hs02, Hs12⟩, Hs03, Hs13⟩, ⟨⟨Hr00, Hr10⟩, ⟨Hr01, Hr11⟩, ⟨Hr02, Hr12⟩, Hr03, Hr13⟩, Hw, Ho⟩ Hk
  have e0 : p = pos 0 (ix l 0) := by unfold pos ix; dsimp only; omega
  have e1 : p + 1 = pos 1 (ix l 0) := by unfold pos ix; dsimp only; omega
  have e2 : p + 1 + 1 = pos 0 (ix l 1) := by unfold pos ix; dsimp only; omega
  have e3 : p + 1 + 1 + 1 = pos 1 (ix l 1) := by unfold pos ix; dsimp only; omega
  have e4 : p + 1 + 1 + 1 + 1 = pos 0 (ix l 2) := by unfold pos ix; dsimp only; omega
  have e5 : p + 1 + 1 + 1 + 1 + 1 = pos 1 (ix l 2) := by unfold pos ix; dsimp only; omega
  have e6 : p + 1 + 1 + 1 + 1 + 1 + 1 = pos 0 (ix l 3) := by unfold pos ix; dsimp only; omega
  have e7 : p + 1 + 1 + 1 + 1 + 1 + 1 + 1 = pos 1 (ix l 3) := by unfold pos ix; dsimp only; omega
  have e8 : p + 1 + 1 + 1 + 1 + 1 + 1 + 1 + 1 = p' := by omega
  have hdev : ∀ ch j, sendDev ch (ix l j) c = ptn j c := fun ch j => by rw [sendDev_eq, kof_ix]
  unfold exchange
  simp only [bind_assoc]
  iapply (wp_send_ex P K c 0 (ix l 0) (sendDev 0 (ix l 0) c) (sendDev_eq ..)) $$ [Hs00 Hr00 Ho]
  · isplitr; · iexact Hrec
    isplitl [Hs00]; · iexact Hs00
    isplitl [Hr00]; · iexact Hr00
    rw [← e0]; iexact Ho
  iintro ⟨H00, Ho⟩
  iapply (wp_put c 1 (ix l 0)) $$ Hs10
  iintro Hs10
  iapply (wp_send_ex P K c 1 (ix l 0) (sendDev 1 (ix l 0) c) (sendDev_eq ..)) $$ [Hs10 Hr10 Ho]
  · isplitr; · iexact Hrec
    isplitl [Hs10]; · iexact Hs10
    isplitl [Hr10]; · iexact Hr10
    rw [← e0, e1]; iexact Ho
  rw [← e1]
  iintro ⟨H10, Ho⟩
  iapply (wp_waitOut P K c l (p + 1 + 1)) $$ [Hw Ho]
  · isplitr; · iexact Hrec
    isplitr; · iexact Hlev
    isplitl [Hw]; · iexact Hw
    iexact Ho
  unfold outDone
  iintro ⟨⟨Hw, Hwa, Hwz⟩, Ho⟩
  iapply (wp_ldOut c l (P.wo l c)) $$ Hw
  iintro Hw
  iapply (wp_step P K c 0 l 0 1 rfl _ (hdev 0 1) (p + 1 + 1) e2) $$ [H00 Hs01 Hr01 Ho]
  · isplitr; · iexact Hrec
    isplitr; · iexact Hlev
    isplitl [H00]; · iexact H00
    isplitl [Hs01]; · iexact Hs01
    isplitl [Hr01]; · iexact Hr01
    iexact Ho
  iintro ⟨H00, H01, Ho⟩
  iapply (wp_step P K c 1 l 0 1 rfl _ (hdev 1 1) (p + 1 + 1 + 1) e3) $$ [H10 Hs11 Hr11 Ho]
  · isplitr; · iexact Hrec
    isplitr; · iexact Hlev
    isplitl [H10]; · iexact H10
    isplitl [Hs11]; · iexact Hs11
    isplitl [Hr11]; · iexact Hr11
    iexact Ho
  iintro ⟨H10, H11, Ho⟩
  iapply (wp_step P K c 0 l 1 2 rfl _ (hdev 0 2) (p + 1 + 1 + 1 + 1) e4) $$ [H01 Hs02 Hr02 Ho]
  · isplitr; · iexact Hrec
    isplitr; · iexact Hlev
    isplitl [H01]; · iexact H01
    isplitl [Hs02]; · iexact Hs02
    isplitl [Hr02]; · iexact Hr02
    iexact Ho
  iintro ⟨H01, H02, Ho⟩
  iapply (wp_step P K c 1 l 1 2 rfl _ (hdev 1 2) (p + 1 + 1 + 1 + 1 + 1) e5) $$ [H11 Hs12 Hr12 Ho]
  · isplitr; · iexact Hrec
    isplitr; · iexact Hlev
    isplitl [H11]; · iexact H11
    isplitl [Hs12]; · iexact Hs12
    isplitl [Hr12]; · iexact Hr12
    iexact Ho
  iintro ⟨H11, H12, Ho⟩
  iapply (wp_step P K c 0 l 2 3 rfl _ (hdev 0 3) (p + 1 + 1 + 1 + 1 + 1 + 1) e6) $$ [H02 Hs03 Hr03 Ho]
  · isplitr; · iexact Hrec
    isplitr; · iexact Hlev
    isplitl [H02]; · iexact H02
    isplitl [Hs03]; · iexact Hs03
    isplitl [Hr03]; · iexact Hr03
    iexact Ho
  iintro ⟨H02, H03, Ho⟩
  iapply (wp_step P K c 1 l 2 3 rfl _ (hdev 1 3) (p + 1 + 1 + 1 + 1 + 1 + 1 + 1) e7) $$ [H12 Hs13 Hr13 Ho]
  · isplitr; · iexact Hrec
    isplitr; · iexact Hlev
    isplitl [H12]; · iexact H12
    isplitl [Hs13]; · iexact Hs13
    isplitl [Hr13]; · iexact Hr13
    iexact Ho
  rw [e8]
  iintro ⟨H12, H13, Ho⟩
  iapply (wp_last P K c 0 l p' (by unfold pos ix; dsimp only; omega)) $$ [H03 Ho]
  · isplitr; · iexact Hrec
    isplitr; · iexact Hlev
    isplitl [H03]; · iexact H03
    iexact Ho
  iintro ⟨H03, Ho⟩
  iapply (wp_last P K c 1 l p' (by unfold pos ix; dsimp only; omega)) $$ [H13 Ho]
  · isplitr; · iexact Hrec
    isplitr; · iexact Hlev
    isplitl [H13]; · iexact H13
    iexact Ho
  iintro ⟨H13, Ho⟩
  simp only [pure_bind]
  rw [P.lay_eq]
  iapply Hk
  isplitl [H00 H10 H01 H11 H02 H12 H03 H13]
  · isplitl [H00 H10]
    · isplitl [H00]; · iexact H00
      iexact H10
    isplitl [H01 H11]
    · isplitl [H01]; · iexact H01
      iexact H11
    isplitl [H02 H12]
    · isplitl [H02]; · iexact H02
      iexact H12
    isplitl [H03]; · iexact H03
    iexact H13
  isplitr [Ho]
  · isplitl [Hw]; · iexact Hw
    isplitl [Hwa]; · iexact Hwa
    iexact Hwz
  iexact Ho

/-- The waits for the sends of one exchange. -/
theorem wp_drain (e : Fin 12) {k : PUnit → KProg F α} :
    iprop(records P K ∗ levAts L lv ∗ (taken P 0 e c ∗ taken P 1 e c) ∗ owesW (F := F) c (owedFrom 24 c))
      ⊢ iprop((((over (F := F) 0 e c ∗ over (F := F) 1 e c) ∗ owesW (F := F) c (owedFrom 24 c)) -∗ WP c (k ⟨⟩) Q)
        -∗ WP c (drain e >>= k) Q) := by
  iintro ⟨#Hrec, #Hlev, ⟨H0, H1⟩, Ho⟩ Hk
  unfold drain
  simp only [bind_assoc]
  iapply (wp_waitS P K c 0 e 24) $$ [H0 Ho]
  · isplitr; · iexact Hrec
    isplitr; · iexact Hlev
    isplitl [H0]; · iexact H0
    iexact Ho
  iintro ⟨H0, Ho⟩
  iapply (wp_waitS P K c 1 e 24) $$ [H1 Ho]
  · isplitr; · iexact Hrec
    isplitr; · iexact Hlev
    isplitl [H1]; · iexact H1
    iexact Ho
  iintro ⟨H1, Ho⟩
  iapply Hk
  isplitr [Ho]
  · isplitl [H0]; · iexact H0
    iexact H1
  iexact Ho

/-- The waits for all of a layer's sends. -/
theorem wp_drains (l : Fin 3) {k : PUnit → KProg F α} :
    iprop(records P K ∗ levAts L lv ∗ quad (fun ch e => taken P ch e c) l ∗ owesW (F := F) c (owedFrom 24 c))
      ⊢ iprop(((quad (fun ch e => over (F := F) ch e c) l ∗ owesW (F := F) c (owedFrom 24 c)) -∗ WP c (k ⟨⟩) Q)
        -∗ WP c (drains l >>= k) Q) := by
  rw [quad_eq, quad_eq]
  iintro ⟨#Hrec, #Hlev, ⟨H0, H1, H2, H3⟩, Ho⟩ Hk
  unfold drains
  simp only [bind_assoc]
  iapply (wp_drain P K c (ix l 0)) $$ [H0 Ho]
  · isplitr; · iexact Hrec
    isplitr; · iexact Hlev
    isplitl [H0]; · iexact H0
    iexact Ho
  iintro ⟨H0, Ho⟩
  iapply (wp_drain P K c (ix l 1)) $$ [H1 Ho]
  · isplitr; · iexact Hrec
    isplitr; · iexact Hlev
    isplitl [H1]; · iexact H1
    iexact Ho
  iintro ⟨H1, Ho⟩
  iapply (wp_drain P K c (ix l 2)) $$ [H2 Ho]
  · isplitr; · iexact Hrec
    isplitr; · iexact Hlev
    isplitl [H2]; · iexact H2
    iexact Ho
  iintro ⟨H2, Ho⟩
  iapply (wp_drain P K c (ix l 3)) $$ [H3 Ho]
  · isplitr; · iexact Hrec
    isplitr; · iexact Hlev
    isplitl [H3]; · iexact H3
    iexact Ho
  iintro ⟨H3, Ho⟩
  iapply Hk
  isplitr [Ho]
  · isplitl [H0]; · iexact H0
    isplitl [H1]; · iexact H1
    isplitl [H2]; · iexact H2
    iexact H3
  iexact Ho

/-- All four signals: every landing slot is lent to the partner that writes it. -/
theorem wp_signals {k : PUnit → KProg F α} :
    iprop(records P K ∗ (bigSep Finset.univ fun i : Fin 4 => dutyTok ER (kcell (ptn i c, kBar)) 0 i)
        ∗ (bigSep Finset.univ fun i : Fin 4 => landing (F := F) i c) ∗ owesW (F := F) c (owedSig 0 c))
      ⊢ iprop((owesW (F := F) c (owedFrom 0 c) -∗ WP c (k ⟨⟩) Q) -∗ WP c (signals c >>= k) Q) := by
  rw [bigSep_four, bigSep_four, ← owedSig_end]
  iintro ⟨#Hrec, ⟨Ht0, Ht1, Ht2, Ht3⟩, ⟨Hl0, Hl1, Hl2, Hl3⟩, Ho⟩ Hk
  unfold signals
  simp only [bind_assoc]
  iapply (wp_signal_ex P K c 0 (sigDev 0 c) (sigDev_eq 0 c) 0 1 rfl rfl) $$ [Ht0 Hl0 Ho]
  · isplitr; · iexact Hrec
    isplitl [Ht0]; · iexact Ht0
    isplitl [Hl0]; · iexact Hl0
    iexact Ho
  iintro Ho
  iapply (wp_signal_ex P K c 1 (sigDev 1 c) (sigDev_eq 1 c) 1 2 rfl rfl) $$ [Ht1 Hl1 Ho]
  · isplitr; · iexact Hrec
    isplitl [Ht1]; · iexact Ht1
    isplitl [Hl1]; · iexact Hl1
    iexact Ho
  iintro Ho
  iapply (wp_signal_ex P K c 2 (sigDev 2 c) (sigDev_eq 2 c) 2 3 rfl rfl) $$ [Ht2 Hl2 Ho]
  · isplitr; · iexact Hrec
    isplitl [Ht2]; · iexact Ht2
    isplitl [Hl2]; · iexact Hl2
    iexact Ho
  iintro Ho
  iapply (wp_signal_ex P K c 3 (sigDev 3 c) (sigDev_eq 3 c) 3 4 rfl rfl) $$ [Ht3 Hl3 Ho]
  · isplitr; · iexact Hrec
    isplitl [Ht3]; · iexact Ht3
    isplitl [Hl3]; · iexact Hl3
    iexact Ho
  iexact Hk

/-- All six copies of the weights start. -/
theorem wp_copies {k : PUnit → KProg F α} :
    iprop(records P K ∗ (bigSep Finset.univ fun l => inIdle P l c) ∗ (bigSep Finset.univ fun l => outIdle P l c))
      ⊢ iprop((((bigSep Finset.univ fun l => inFlight (F := F) l c) ∗ (bigSep Finset.univ fun l => outFlight (F := F) l c))
          -∗ WP c (k ⟨⟩) Q) -∗ WP c (copies >>= k) Q) := by
  simp only [bigSep_three]
  iintro ⟨#Hrec, ⟨Hi0, Hi1, Hi2⟩, Ho0, Ho1, Ho2⟩ Hk
  unfold copies
  simp only [bind_assoc]
  iapply (wp_cpIn P K c 0) $$ [Hi0]
  · isplitr; · iexact Hrec
    iexact Hi0
  iintro Hi0
  iapply (wp_cpOut P K c 0) $$ [Ho0]
  · isplitr; · iexact Hrec
    iexact Ho0
  iintro Ho0
  iapply (wp_cpIn P K c 1) $$ [Hi1]
  · isplitr; · iexact Hrec
    iexact Hi1
  iintro Hi1
  iapply (wp_cpOut P K c 1) $$ [Ho1]
  · isplitr; · iexact Hrec
    iexact Ho1
  iintro Ho1
  iapply (wp_cpIn P K c 2) $$ [Hi2]
  · isplitr; · iexact Hrec
    iexact Hi2
  iintro Hi2
  iapply (wp_cpOut P K c 2) $$ [Ho2]
  · isplitr; · iexact Hrec
    iexact Ho2
  iintro Ho2
  iapply Hk
  isplitl [Hi0 Hi1 Hi2]
  · isplitl [Hi0]; · iexact Hi0
    isplitl [Hi1]; · iexact Hi1
    iexact Hi2
  isplitl [Ho0]; · iexact Ho0
  isplitl [Ho1]; · iexact Ho1
  iexact Ho2

/-- A layer from its first weight on: the wait for the weight, the first partial product, and the exchanges. -/
theorem wp_layer (l : Fin 3) (xb : FVec F S64x512 .bf16) (hxb : xb = P.xb l c)
    (p p' : ℕ) (hp : p = 8 * l.val) (hp' : p' = 8 * l.val + 8)
    {k : Vec F S1x1024x512 .f32 × (Vec F S1x64x512 .bf16 × Vec F S1x64x512 .bf16)
      × (Vec F S1x64x512 .bf16 × Vec F S1x64x512 .bf16) → KProg F α} :
    iprop(records P K ∗ levAts L lv ∗ quad (fun ch e => holds (F := F) c (sSl ch e)) l
        ∗ quad (fun ch e => rest (F := F) ch e c) l ∗ inFlight (F := F) l c ∗ outFlight (F := F) l c ∗ owesW (F := F) c (owedFrom p c))
      ⊢ iprop(((quad (fun ch e => taken P ch e c) l ∗ inDone P l c ∗ outDone P l c ∗ owesW (F := F) c (owedFrom p' c))
          -∗ WP c (k (P.lay (P.xb l) l c)) Q)
        -∗ WP c (waitIn l >>= fun _ => ldIn l >>= fun w => put 0 (ix l 0) (k0_pay27 xb w) >>= fun _ =>
            exchange l (ix l 0) (ix l 1) (ix l 2) (ix l 3) (k0_pay28 xb w) c >>= k) Q) := by
  subst hxb
  rw [quad_eq (fun ch e => holds (F := F) c (sSl ch e))]
  iintro ⟨#Hrec, #Hlev, ⟨⟨H00, H10⟩, H⟩, Hr, Hi, Hu, Ho⟩ Hk
  iapply (wp_waitIn P K c l p) $$ [Hi Ho]
  · isplitr; · iexact Hrec
    isplitr; · iexact Hlev
    isplitl [Hi]; · iexact Hi
    iexact Ho
  unfold inDone
  iintro ⟨⟨Hw, Hwa, Hwz⟩, Ho⟩
  iapply (wp_ldIn c l (P.wi l c)) $$ Hw
  iintro Hw
  iapply (wp_put c 0 (ix l 0)) $$ H00
  iintro H00
  iapply (wp_exchange P K c l _ rfl p p' hp hp') $$ [H00 H10 H Hr Hu Ho]
  · isplitr; · iexact Hrec
    isplitr; · iexact Hlev
    isplitl [H00]; · iexact H00
    isplitl [H10]; · iexact H10
    isplitl [H]; · iexact H
    isplitl [Hr]; · iexact Hr
    isplitl [Hu]; · iexact Hu
    iexact Ho
  iintro ⟨Ht, Hu, Ho⟩
  iapply Hk
  isplitl [Ht]; · iexact Ht
  isplitl [Hw Hwa Hwz]
  · isplitl [Hw]; · iexact Hw
    isplitl [Hwa]; · iexact Hwa
    iexact Hwz
  isplitl [Hu]; · iexact Hu
  iexact Ho

/-- The whole body: from the slots, the tokens and the weights at rest to all of them at rest again, the staged result
written. -/
theorem wp_body (f : (cc0_stg1_0 : Ref sig .tc).ty.Contents (Elt F)) {Q : PUnit → sProp (MT nD τ sig Unit (Elt F) ℕ UU ℕ)} :
    iprop(records P K ∗ levAts L lv ∗ cred (tallyAt (kcell (c, kBar)) () 4) ∗ atPos ER (kcell (c, kBar)) 0 ∅ 0
        ∗ (bigSep Finset.univ fun i : Fin 4 => dutyTok ER (kcell (ptn i c, kBar)) 0 i)
        ∗ (bigSep Finset.univ fun i : Fin 4 => landing (F := F) i c)
        ∗ fam (fun ch e => toks (F := F) ch e c) ∗ fam (fun ch e => holds (F := F) c (sSl ch e))
        ∗ (bigSep Finset.univ fun l => inIdle P l c) ∗ (bigSep Finset.univ fun l => outIdle P l c)
        ∗ ((c : Thread nD τ).loc cc0_stg0_0 ↦{fullShare} P.x c) ∗ ((c : Thread nD τ).loc cc0_stg1_0 ↦{fullShare} f)
        ∗ owesW (F := F) c (owedSig 0 c))
      ⊢ iprop(((fam (fun ch e => over (F := F) ch e c) ∗ (bigSep Finset.univ fun l => inDone P l c)
            ∗ (bigSep Finset.univ fun l => outDone P l c) ∗ semVal (kcell (c, kBar)) 0
            ∗ ((c : Thread nD τ).loc cc0_stg0_0 ↦{fullShare} P.x c) ∗ ((c : Thread nD τ).loc cc0_stg1_0 ↦{fullShare} P.out c)
            ∗ owesW (F := F) c 0) -∗ Q ⟨⟩) -∗ WP c body Q) := by
  iintro ⟨#Hrec, #Hlev, Hcb, Hpb, Hdt, Hld, Htk, Hs, Hi, Hu, Hx, Hy, Ho⟩ Hk
  unfold body
  simp only [Prog.lift, Prog.bind_op, Prog.bind_ret]
  rw [wp_device]
  iapply (wp_signals P K c) $$ [Hdt Hld Ho]
  · isplitr; · iexact Hrec
    isplitl [Hdt]; · iexact Hdt
    isplitl [Hld]; · iexact Hld
    iexact Ho
  iintro Ho
  iapply (wp_copies P K c) $$ [Hi Hu]
  · isplitr; · iexact Hrec
    isplitl [Hi]; · iexact Hi
    iexact Hu
  iintro ⟨Hi, Hu⟩
  ihave Hi := (Entails.of_eq (bigSep_three fun l => inFlight (F := F) l c)) $$ Hi
  ihave Hu := (Entails.of_eq (bigSep_three fun l => outFlight (F := F) l c)) $$ Hu
  ihave Hs := (Entails.of_eq (show fam (fun ch e => holds (F := F) c (sSl ch e)) = _ by rw [fam_eq, quad_eq _ 0])) $$ Hs
  icases Hi with ⟨Hi0, Hi1, Hi2⟩
  icases Hu with ⟨Hu0, Hu1, Hu2⟩
  icases Hs with ⟨⟨⟨H00, H10⟩, Hs0⟩, Hs1, Hs2⟩
  iapply (wp_ldX c (P.x c)) $$ Hx
  iintro Hx
  iapply (wp_waitIn P K c 0 0) $$ [Hi0 Ho]
  · isplitr; · iexact Hrec
    isplitr; · iexact Hlev
    isplitl [Hi0]; · iexact Hi0
    iexact Ho
  iintro ⟨Hi0, Ho⟩
  ihave Hi0 := (Entails.of_eq (show inDone P 0 c
    = iprop(has c (wiSl 0) fullShare (P.wi 0 c) ∗ has c (winA 0) fullShare (P.wa 0 c) ∗ semVal (kcell (c, kIn 0)) 0) from rfl)) $$ Hi0
  icases Hi0 with ⟨Hw, Hwa, Hwz⟩
  iapply (wp_ldIn c 0 (P.wi 0 c)) $$ Hw
  iintro Hw
  iapply (wp_put c 0 (ix 0 0)) $$ H00
  iintro H00
  iapply (wp_barrier P K c) $$ [Hcb Hpb Ho]
  · isplitr; · iexact Hrec
    isplitr; · iexact Hlev
    isplitl [Hcb]; · iexact Hcb
    isplitl [Hpb]; · iexact Hpb
    iexact Ho
  iintro ⟨Ho, Hbz, Hland⟩
  ihave Hr := (rest_of (F := F) c) $$ [Hland Htk]
  · isplitl [Hland]; · iexact Hland
    iexact Htk
  ihave Hr := (Entails.of_eq (fam_eq (fun ch e => rest (F := F) ch e c))) $$ Hr
  icases Hr with ⟨Hr0, Hr1, Hr2⟩
  iapply (wp_exchange P K c 0 _ (by rw [P.xb_zero]; rfl) 0 8 rfl rfl) $$ [H00 H10 Hs0 Hr0 Hu0 Ho]
  · isplitr; · iexact Hrec
    isplitr; · iexact Hlev
    isplitl [H00]; · iexact H00
    isplitl [H10]; · iexact H10
    isplitl [Hs0]; · iexact Hs0
    isplitl [Hr0]; · iexact Hr0
    isplitl [Hu0]; · iexact Hu0
    iexact Ho
  iintro ⟨Ht0, Hu0, Ho⟩
  iapply (wp_layer P K c 1 _ (P.xb_one c).symm 8 16 rfl rfl) $$ [Hs1 Hr1 Hi1 Hu1 Ho]
  · isplitr; · iexact Hrec
    isplitr; · iexact Hlev
    isplitl [Hs1]; · iexact Hs1
    isplitl [Hr1]; · iexact Hr1
    isplitl [Hi1]; · iexact Hi1
    isplitl [Hu1]; · iexact Hu1
    iexact Ho
  iintro ⟨Ht1, Hi1, Hu1, Ho⟩
  iapply (wp_layer P K c 2 _ (P.xb_two c).symm 16 24 rfl rfl) $$ [Hs2 Hr2 Hi2 Hu2 Ho]
  · isplitr; · iexact Hrec
    isplitr; · iexact Hlev
    isplitl [Hs2]; · iexact Hs2
    isplitl [Hr2]; · iexact Hr2
    isplitl [Hi2]; · iexact Hi2
    isplitl [Hu2]; · iexact Hu2
    iexact Ho
  iintro ⟨Ht2, Hi2, Hu2, Ho⟩
  iapply (wp_putOut c f) $$ Hy
  iintro Hy
  iapply (wp_drains P K c 0) $$ [Ht0 Ho]
  · isplitr; · iexact Hrec
    isplitr; · iexact Hlev
    isplitl [Ht0]; · iexact Ht0
    iexact Ho
  iintro ⟨Ht0, Ho⟩
  iapply (wp_drains P K c 1) $$ [Ht1 Ho]
  · isplitr; · iexact Hrec
    isplitr; · iexact Hlev
    isplitl [Ht1]; · iexact Ht1
    iexact Ho
  iintro ⟨Ht1, Ho⟩
  rw [← bind_pure (drains 2)]
  iapply (wp_drains P K c 2) $$ [Ht2 Ho]
  · isplitr; · iexact Hrec
    isplitr; · iexact Hlev
    isplitl [Ht2]; · iexact Ht2
    iexact Ho
  rw [owedFrom_end]
  iintro ⟨Ht2, Ho⟩
  simp only [Prog.pure_eq_ret]
  iapply (WP_ret c)
  iapply Hk
  rw [fam_eq (fun ch e => over (F := F) ch e c), bigSep_three (fun l => inDone P l c), bigSep_three (fun l => outDone P l c)]
  isplitl [Ht0 Ht1 Ht2]
  · isplitl [Ht0]; · iexact Ht0
    isplitl [Ht1]; · iexact Ht1
    iexact Ht2
  isplitl [Hw Hwa Hwz Hi1 Hi2]
  · isplitl [Hw Hwa Hwz]
    · unfold inDone
      isplitl [Hw]; · iexact Hw
      isplitl [Hwa]; · iexact Hwa
      iexact Hwz
    isplitl [Hi1]; · iexact Hi1
    iexact Hi2
  isplitl [Hu0 Hu1 Hu2]
  · isplitl [Hu0]; · iexact Hu0
    isplitl [Hu1]; · iexact Hu1
    iexact Hu2
  isplitl [Hbz]; · iexact Hbz
  isplitl [Hx]; · iexact Hx
  isplitl [Hy]; · iexact Hy
  iexact Ho

end Ops

end Cert.KernelIdeal.Hyper

end
-- ==== Proof.Slots.lean ====
module

public import proofs.«01_k».proof.Proof.Body

/-! # Whole buffers and their slots

A scratch buffer is its slots, at any contents; and the families over layers and exchanges are families over the slots. -/

@[expose] public section

set_option maxRecDepth 65536

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

/-- The twelve exchanges, by layer and place in the layer. -/
def ixE : Fin 3 × Fin 4 ≃ Fin 12 where
  toFun p := ix p.1 p.2
  invFun e := (lof e, kof e)
  left_inv := by rintro ⟨l, k⟩; exact Prod.ext (lof_ix l k) (kof_ix l k)
  right_inv := by decide

/-- A family over layers, exchanges and chains is one over the slots. -/
theorem fam_slots (Φ : Fin 2 → Fin 12 → sProp 𝕄) :
    fam Φ = bigSep Finset.univ fun i : Fin 2 × Fin 12 => Φ i.1 i.2 := by
  have h : (bigSep Finset.univ fun e : Fin 12 => bigSep Finset.univ fun ch : Fin 2 => Φ ch e) = fam Φ := by
    rw [bigSep_univ_equiv ixE, bigSep_univ_prod]; rfl
  rw [bigSep_univ_prod, ← h, bigSep_univ_comm]

/-- What a device hands its partners at the barrier is all its landing slots. -/
theorem landing_all (c : Dev nD) :
    (bigSep Finset.univ fun k : Fin 4 => landing (F := F) k c) = fam fun ch e => holds (F := F) c (rSl ch e) := by
  unfold landing fam quad
  rw [bigSep_univ_comm]

/-! ## Buffers as slots -/

section Rects
variable (c : Dev nD) {sp : Space} {sh : Shape} {e : EltTy} (M : Memref sig .tc sp sh e)
variable {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

/-- A memref held at any contents is each part of a disjoint cover held at any contents, -/
theorem holds_split : holds (F := F) c M ⊢ bigSep Finset.univ fun t => holds (F := F) c (M.slice (r t) (hr t)) := by
  iintro ⟨%X, H⟩
  ihave H := (show has c M fullShare X ⊢ bigSep Finset.univ fun t => holds (F := F) c (M.slice (r t) (hr t)) from
    (owns_rects (c : Thread nD τ) M fullShare r hr hd hcov X).trans (bigSep_mono fun t _ =>
      (by iintro H; iexists _; iexact H :
        has (F := F) c (M.slice (r t) (hr t)) fullShare (fun j => X ((r t).emb j)) ⊢ holds (F := F) c (M.slice (r t) (hr t))))) $$ H
  iexact H

/-- and back. -/
theorem holds_join : (bigSep Finset.univ fun t => holds (F := F) c (M.slice (r t) (hr t))) ⊢ holds (F := F) c M := by
  refine (BI.bigSep_exists_pi Finset.univ (fun t X => has (F := F) c (M.slice (r t) (hr t)) fullShare X)).trans ?_
  iintro ⟨%Xs, H⟩
  have hg (t : T) : (fun j => Rect.glue r hcov Xs ((r t).emb j)) = Xs t := funext fun y => Rect.glue_emb r hcov hd Xs t y
  iexists Rect.glue r hcov Xs
  iapply (owns_of_rects (c : Thread nD τ) M fullShare r hr hd hcov (Rect.glue r hcov Xs))
  simp only [hg]
  iexact H

end Rects

/-- A whole buffer held at any contents. -/
theorem holds_whole (c : Dev nD) (b : Ref sig .tc) :
    holds (F := F) c (Memref.whole b) = (iprop(∃ f : Buf (Elt F) ((c : Thread nD τ).loc b), ((c : Thread nD τ).loc b) ↦{fullShare} f) : sProp 𝕄) := by
  show iprop(∃ X, owns (c : Thread nD τ) (Memref.whole b) fullShare X) = _
  simp only [owns_whole]

theorem slot_disjoint (e e' : Fin 12) (h : e ≠ e') : Disjoint (slotR e).set (slotR e').set :=
  Rect.unit_disjoint 0 (by
    have : e.val ≠ e'.val := fun h' => h (Fin.ext h')
    show e.val + 1 ≤ e'.val ∨ e'.val + 1 ≤ e.val
    omega)

theorem win_disjoint (e e' : Fin 3) (h : e ≠ e') : Disjoint (winR e).set (winR e').set :=
  Rect.unit_disjoint 0 (by
    have : e.val ≠ e'.val := fun h' => h (Fin.ext h')
    show e.val + 1 ≤ e'.val ∨ e'.val + 1 ≤ e.val
    omega)

theorem wout_disjoint (e e' : Fin 3) (h : e ≠ e') : Disjoint (woutR e).set (woutR e').set :=
  Rect.unit_disjoint 0 (by
    have : e.val ≠ e'.val := fun h' => h (Fin.ext h')
    show e.val + 1 ≤ e'.val ∨ e'.val + 1 ≤ e.val
    omega)

/-- The one-row boxes along the first axis cover. -/
theorem rows_cover {n a b : ℕ} (inb : ∀ t : Fin n, ∀ i, (![t.val, 0, 0] : Fin 3 → ℕ) i + (![1, a, b] : Fin 3 → ℕ) i ≤ (⟨3, ![n, a, b]⟩ : Shape).size i) :
    (Finset.univ : Finset (Fin n)).biUnion (fun t => (Rect.unit (s := ⟨3, ![n, a, b]⟩) ![t.val, 0, 0] ![1, a, b] (inb t)).set) = Finset.univ := by
  ext i
  simp only [Finset.mem_biUnion, Finset.mem_univ, true_and, iff_true]
  refine ⟨⟨(i 0).val, (i 0).isLt⟩, Rect.mem_set_unit.mpr fun x => ?_⟩
  fin_cases x
  · exact ⟨le_rfl, Nat.lt_succ_self _⟩
  · exact ⟨Nat.zero_le _, by have := (i 1).isLt; exact (Nat.zero_add _).symm ▸ this⟩
  · exact ⟨Nat.zero_le _, by have := (i 2).isLt; exact (Nat.zero_add _).symm ▸ this⟩

/-- The sending buffers are the sending slots, -/
theorem sendSlots (c : Dev nD) :
    (iprop(holds (F := F) c (sB 0) ∗ holds (F := F) c (sB 1)) : sProp 𝕄) = fam fun ch e => holds (F := F) c (sSl ch e) := by
  rw [fam_slots, bigSep_univ_prod, bigSep_univ_two]
  exact congrArg₂ (fun a b : sProp 𝕄 => iprop(a ∗ b))
    (BI.equiv_iff.mp ⟨holds_split c _ slotR _ slot_disjoint (rows_cover _), holds_join c _ slotR _ slot_disjoint (rows_cover _)⟩)
    (BI.equiv_iff.mp ⟨holds_split c _ slotR _ slot_disjoint (rows_cover _), holds_join c _ slotR _ slot_disjoint (rows_cover _)⟩)

/-- the landing buffers the landing slots, -/
theorem landSlots (c : Dev nD) :
    (iprop(holds (F := F) c (rB 0) ∗ holds (F := F) c (rB 1)) : sProp 𝕄) = fam fun ch e => holds (F := F) c (rSl ch e) := by
  rw [fam_slots, bigSep_univ_prod, bigSep_univ_two]
  exact congrArg₂ (fun a b : sProp 𝕄 => iprop(a ∗ b))
    (BI.equiv_iff.mp ⟨holds_split c _ slotR _ slot_disjoint (rows_cover _), holds_join c _ slotR _ slot_disjoint (rows_cover _)⟩)
    (BI.equiv_iff.mp ⟨holds_split c _ slotR _ slot_disjoint (rows_cover _), holds_join c _ slotR _ slot_disjoint (rows_cover _)⟩)

/-- and the weights' scratches their slots. -/
theorem winSlots (c : Dev nD) : holds (F := F) c winB = bigSep Finset.univ fun l : Fin 3 => holds (F := F) c (wiSl l) :=
  BI.equiv_iff.mp ⟨holds_split c _ winR _ win_disjoint (rows_cover _), holds_join c _ winR _ win_disjoint (rows_cover _)⟩

theorem woutSlots (c : Dev nD) : holds (F := F) c woutB = bigSep Finset.univ fun l : Fin 3 => holds (F := F) c (woSl l) :=
  BI.equiv_iff.mp ⟨holds_split c _ woutR _ wout_disjoint (rows_cover _), holds_join c _ woutR _ wout_disjoint (rows_cover _)⟩

/-- All scratch of one device, whole. -/
def scratch (c : Dev nD) : sProp 𝕄 :=
  iprop((fam fun ch e => holds (F := F) c (sSl ch e)) ∗ (fam fun ch e => holds (F := F) c (rSl ch e))
    ∗ (bigSep Finset.univ fun l : Fin 3 => holds (F := F) c (wiSl l)) ∗ (bigSep Finset.univ fun l : Fin 3 => holds (F := F) c (woSl l)))

/-- The scratch buffers are the slots. -/
theorem scratch_eq (c : Dev nD) :
    (Pipeline.scopedRest (Ix := Unit) (Name := ℕ) (U := UU) (Lvl := ℕ) (Val := Elt F) (τ := τ) spec0 c : sProp 𝕄) ⊣⊢ scratch (F := F) c := by
  unfold scratch
  rw [scopedRest0_eq, ← sendSlots, ← landSlots, ← winSlots, ← woutSlots]
  show _ ⊣⊢ iprop((holds (F := F) c (Memref.whole cc0_scratch0) ∗ holds (F := F) c (Memref.whole cc0_scratch2))
    ∗ (holds (F := F) c (Memref.whole cc0_scratch1) ∗ holds (F := F) c (Memref.whole cc0_scratch3))
    ∗ holds (F := F) c (Memref.whole cc0_scratch4) ∗ holds (F := F) c (Memref.whole cc0_scratch5))
  rw [holds_whole, holds_whole, holds_whole, holds_whole, holds_whole, holds_whole]
  constructor
  · iintro ⟨H0, H1, H2, H3, H4, H5⟩
    isplitl [H0 H2]; · isplitl [H0] <;> iassumption
    isplitl [H1 H3]; · isplitl [H1] <;> iassumption
    isplitl [H4] <;> iassumption
  · iintro ⟨⟨H0, H2⟩, ⟨H1, H3⟩, H4, H5⟩
    isplitl [H0]; · iexact H0
    isplitl [H1]; · iexact H1
    isplitl [H2]; · iexact H2
    isplitl [H3]; · iexact H3
    isplitl [H4] <;> iassumption

end Cert.KernelIdeal.Hyper

end
-- ==== Proof.Start.lean ====
module

public import proofs.«01_k».proof.Proof.Slots

/-! # What a device starts with

The launch gives each device its cells' positions and the tokens of its own cells. The tokens go to the devices that pay
the duties, and the credits a device's cells will be paid are dealt to it. -/

@[expose] public section

set_option maxRecDepth 65536

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Tokens -/

/-- The duties of one device's cells. -/
abbrev Tk : Type := Fin 4 ⊕ OC

/-- The cell and duty of each. -/
def tokOf (c : Dev nD) : Tk → GSem nD τ sig × ℕ × Fin 4
  | .inl k => (kcell (c, kBar), 0, k)
  | .inr o => (kcell (c, .inr o), 0, 0)

theorem tokOf_injective : Function.Injective fun t : Dev nD × Tk => tokOf t.1 t.2 := by
  rintro ⟨c, t⟩ ⟨c', t'⟩ h
  have hc (t t' : Tk) (h : tokOf c t = tokOf c' t') : c = c' := by
    have := congrArg (fun x : GSem nD τ sig × ℕ × Fin 4 => x.1.1.1) h
    cases t <;> cases t' <;> exact this
  have h1 : c = c' := hc t t' h
  subst h1
  cases t with
  | inl k =>
    cases t' with
    | inl k' => exact Prod.ext rfl (congrArg Sum.inl (congrArg (fun x : GSem nD τ sig × ℕ × Fin 4 => x.2.2) h))
    | inr o => exact absurd (congrArg Prod.snd (kcell_injective (congrArg Prod.fst h))) (by simp)
  | inr o =>
    cases t' with
    | inl k' => exact absurd (congrArg Prod.snd (kcell_injective (congrArg Prod.fst h))) (by simp)
    | inr o' =>
      exact Prod.ext rfl (congrArg Sum.inr (Sum.inr.inj (congrArg Prod.snd (kcell_injective (congrArg Prod.fst h)))))

def allCells : Finset (GSem nD τ sig) := Finset.univ.map ⟨kcell, kcell_injective⟩
def allToks : Finset (GSem nD τ sig × ℕ × Fin 4) := Finset.univ.map ⟨fun t : Dev nD × Tk => tokOf t.1 t.2, tokOf_injective⟩

/-- What the launch starts from: the staging cells' share and the protocol's. -/
def u₀ : UU :=
  (initOf (Pipeline.cells cfgs cellOf_inj) (Pipeline.launchToks cfgs cellOf_inj), initOf allCells allToks)

/-- The tokens of a device's own cells, -/
def ownToks (c : Dev nD) : sProp 𝕄 :=
  bigSep Finset.univ fun t : Tk => dutyTok ER (tokOf c t).1 (tokOf c t).2.1 (tokOf c t).2.2

/-- and the tokens of the duties a device pays. -/
def payToks (c : Dev nD) : sProp 𝕄 :=
  iprop((bigSep Finset.univ fun k : Fin 4 => dutyTok ER (kcell (ptn k c, kBar)) 0 k)
    ∗ (bigSep Finset.univ fun i : Fin 2 × Fin 12 => dutyTok ER (kcell (c, kSnd i.1 i.2)) 0 0)
    ∗ (bigSep Finset.univ fun i : Fin 2 × Fin 12 => dutyTok ER (dstCell i.1 i.2 c) 0 0)
    ∗ (bigSep Finset.univ fun l : Fin 3 => dutyTok ER (kcell (c, kIn l)) 0 0)
    ∗ (bigSep Finset.univ fun l : Fin 3 => dutyTok ER (kcell (c, kOut l)) 0 0))

/-- A family over the devices may be dealt to the partners. -/
theorem deal {I : Type} [Fintype I] (p : I → Fin 4) (Φ : I → Dev nD → sProp 𝕄) :
    (bigSep Finset.univ fun c : Dev nD => bigSep Finset.univ fun i : I => Φ i c)
      = bigSep Finset.univ fun c : Dev nD => bigSep Finset.univ fun i : I => Φ i (ptn (p i) c) := by
  rw [bigSep_univ_comm, bigSep_univ_comm (fun (c : Dev nD) (i : I) => Φ i (ptn (p i) c))]
  exact bigSep_congr fun i _ => bigSep_univ_equiv (ptnE (p i)) (Φ i)

theorem ownToks_eq (c : Dev nD) : ownToks (F := F) c
    = iprop((bigSep Finset.univ fun k : Fin 4 => dutyTok ER (kcell (c, kBar)) 0 k)
    ∗ (bigSep Finset.univ fun i : Fin 2 × Fin 12 => dutyTok ER (kcell (c, kSnd i.1 i.2)) 0 0)
    ∗ (bigSep Finset.univ fun i : Fin 2 × Fin 12 => dutyTok ER (kcell (c, kRcv i.1 i.2)) 0 0)
    ∗ (bigSep Finset.univ fun l : Fin 3 => dutyTok ER (kcell (c, kIn l)) 0 0)
    ∗ (bigSep Finset.univ fun l : Fin 3 => dutyTok ER (kcell (c, kOut l)) 0 0)) := by
  unfold ownToks
  rw [bigSep_univ_sum, bigSep_univ_sum, bigSep_univ_sum, bigSep_univ_sum]
  rfl

/-- Every token goes to the device that pays its duty. -/
theorem toks_dealt : (bigSep Finset.univ fun c : Dev nD => ownToks (F := F) c) = bigSep Finset.univ fun c : Dev nD => payToks (F := F) c := by
  simp only [ownToks_eq, payToks, bigSep_sep']
  rw [deal (fun k => k) (fun (k : Fin 4) c => dutyTok ER (kcell (c, kBar)) 0 k),
    deal (fun i => kof i.2) (fun (i : Fin 2 × Fin 12) c => dutyTok ER (kcell (c, kRcv i.1 i.2)) 0 0)]

/-! ## Cells -/

variable (P : Inputs F)

/-- What the launch deals a device: its cells and their tokens. -/
def G (c : Dev nD) : sProp 𝕄 :=
  iprop((bigSep Finset.univ fun k : Ck => roundState ER (rd P) (kcell (c, k)) 0)
    ∗ (bigSep Finset.univ fun k : Ck => atPos ER (kcell (c, k)) 0 ∅ 0)
    ∗ (bigSep Finset.univ fun k : Ck => reached ER (kcell (c, k)) 0) ∗ ownToks c)

/-- What a device keeps for itself. -/
def linear (c : Dev nD) : sProp 𝕄 := iprop((bigSep Finset.univ fun k : Ck => atPos ER (kcell (c, k)) 0 ∅ 0) ∗ payToks c)

/-- What it starts from, once every cell's invariant stands. -/
def G' (c : Dev nD) : sProp 𝕄 := iprop(∃ K, records P K ∗ linear c)

theorem fund_cells : BI.own (ER (F := F) (initOf allCells allToks)) ⊢ (|==> bigSep Finset.univ (G P) : sProp 𝕄) := by
  have hX (Φ : GSem nD τ sig → sProp 𝕄) :
      bigSep allCells Φ = bigSep Finset.univ fun c : Dev nD => bigSep Finset.univ fun k : Ck => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]; rfl
  iintro HX
  imod (Rounds.fund ER (rd P) allCells allToks) $$ HX with ⟨Hst, Hr, Hat, Htok⟩
  imodintro
  ihave Hst := (Entails.of_eq (hX fun g => roundState ER (rd P) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

theorem unscopedSems0_eq (c : Dev nD) : (unscopedSems0 c : sProp 𝕄) = semVal (kcell (c, kBar)) 0 := by
  unfold unscopedSems0; rw [bigSep_eq_bigSepL_of_eq [SemLoc.reg barS] (by decide) (by decide)]; rfl

/-- All counters of a device at zero: its own semaphores' and the barrier's. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (kcell (c, k)) 0 : sProp 𝕄) := by
  rw [unscopedSems0_eq, bigSep_univ_sum]
  refine (?_ : _ ⊢ iprop((bigSep Finset.univ fun a : Unit => semVal (kcell (c, .inl a)) 0) ∗ bigSep Finset.univ fun k : OC => (semVal (kcell (c, .inr k)) 0 : sProp 𝕄)))
  iintro ⟨HO, HB⟩
  isplitl [HB]
  · iapply (Entails.of_eq (show semVal (kcell (c, kBar)) 0 = (bigSep Finset.univ fun a : Unit => semVal (kcell (c, .inl a)) 0 : sProp 𝕄) from by
      rw [Finset.univ_unique, bigSep_singleton]))
    iexact HB
  · iapply (Entails.of_eq (show (Pipeline.ownSems0 (Ix := Unit) (Name := ℕ) (U := UU) (Lvl := ℕ) (Val := Elt F) (τ := τ) osem c : sProp 𝕄)
      = bigSep Finset.univ fun k : OC => semVal (kcell (c, .inr k)) 0 from rfl))
    iexact HO

theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k : Ck => iprop(∃ κ : ℕ, cellInv ER (rd P) κ (kcell (c, k))))
          ∗ (bigSep Finset.univ fun k : Ck => reached ER (kcell (c, k)) 0)
          ∗ (bigSep Finset.univ fun k : Ck => atPos ER (kcell (c, k)) 0 ∅ 0) ∗ ownToks c) := by
  unfold G
  iintro ⟨Hos, Hus, Hst, Hat, Hr, Htok⟩
  ihave Hv := (sems0_eq (F := F) c) $$ [Hos Hus]
  · isplitl [Hos] <;> iassumption
  imod (show iprop((bigSep Finset.univ fun k : Ck => semVal (kcell (c, k)) 0) ∗ bigSep Finset.univ fun k : Ck => roundState ER (rd P) (kcell (c, k)) 0)
      ⊢ (|={Set.univ}=> bigSep Finset.univ fun k => iprop(∃ κ : ℕ, cellInv ER (rd P) κ (kcell (c, k))) : sProp 𝕄) from by
        rw [← bigSep_sep']
        exact (bigSep_mono fun k _ => (Rounds.body_intro ER (rd P) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Ck => iprop(∃ κ : ℕ, cellInv ER (rd P) κ (kcell (c, k))))
          ∗ (bigSep Finset.univ fun k : Ck => reached ER (kcell (c, k)) 0)
          ∗ (bigSep Finset.univ fun k : Ck => atPos ER (kcell (c, k)) 0 ∅ 0) ∗ ownToks c) : sProp 𝕄)
      ⊢ bigSep Finset.univ (G' P) := by
  classical
  rw [bigSep_sep', bigSep_sep', bigSep_sep', toks_dealt,
    ← bigSep_univ_prod (fun ck : Dev nD × Ck => iprop(∃ κ : ℕ, cellInv ER (rd P) κ (kcell ck))),
    ← bigSep_univ_prod (fun ck : Dev nD × Ck => (reached ER (kcell ck) 0 : sProp 𝕄))]
  iintro ⟨HI, #HR, Hat, Htok⟩
  ihave HK := (BI.bigSep_exists_pi Finset.univ (fun (ck : Dev nD × Ck) (κ : ℕ) => (cellInv ER (rd P) κ (kcell ck) : sProp 𝕄))) $$ HI
  icases HK with ⟨%K, #HI⟩
  iapply (with_persistent (R := records P K) (Φ := linear) fun c _ =>
    (by unfold G'; iintro ⟨HR, HL⟩; iexists K; isplitl [HR] <;> iassumption : iprop(records P K ∗ linear c) ⊢ G' P c))
  isplitr
  · unfold records; rw [bigSep_sep']
    isplitl; · iexact HI
    iexact HR
  · unfold linear; rw [bigSep_sep']
    isplitl [Hat] <;> iassumption

/-- All devices at once: every cell's invariant stands, and every token is with its payer. -/
theorem glob : (bigSep Finset.univ fun c => iprop(Pipeline.ownSems0 (Ix := Unit) (Name := ℕ) (U := UU) (Lvl := ℕ) (Val := Elt F) (τ := τ) osem c
      ∗ unscopedSems0 c ∗ G P c) : sProp 𝕄) ⊢ |={Set.univ}=> bigSep Finset.univ (G' P) :=
  ((bigSep_mono fun c _ => core_alloc P c).trans (bigSep_fupd _ _)).trans (BI.fupd_mono (regroup P))

/-! ## Credits -/

theorem kcell_iff {c c' : Dev nD} {k k' : Ck} : kcell (c, k) = kcell (c', k') ↔ c = c' ∧ k = k' :=
  ⟨fun h => ⟨congrArg Prod.fst (kcell_injective h), congrArg Prod.snd (kcell_injective h)⟩, fun ⟨h, h'⟩ => by rw [h, h']⟩

theorem ptn_iff (k : Fin 4) (c d : Dev nD) : c = ptn k d ↔ d = ptn k c :=
  ⟨fun h => by rw [h, ptn_ptn], fun h => by rw [h, ptn_ptn]⟩

theorem owed_apply (d : Dev nD) (g : GSem nD τ sig) :
    owedSig 0 d g () = (∑ q ∈ Finset.Ico 0 24, if g = dstCell (chOf q) (exOf q) d then N else 0)
      + ∑ k : Fin 4, if g = kcell (ptn k d, kBar) then 1 else 0 := by
  unfold owedSig owedFrom
  rw [Pi.add_apply, Finsupp.add_apply, Finset.sum_apply, Finsupp.finset_sum_apply, Finset.sum_apply, Finsupp.finset_sum_apply]
  simp only [tallyAt_apply, and_true, Nat.zero_le, Finset.filter_true]

/-- The barrier's cell is paid one unit by each of the four partners; -/
theorem launch_bar (c : Dev nD) : ∑ d : Dev nD, owedSig 0 d (kcell (c, kBar)) () = 4 := by
  simp only [owed_apply, Finset.sum_add_distrib]
  rw [Finset.sum_eq_zero (s := Finset.univ) (f := fun d : Dev nD => ∑ q ∈ Finset.Ico 0 24, if kcell (c, kBar) = dstCell (chOf q) (exOf q) d then N else 0)
      (fun d _ => Finset.sum_eq_zero fun q _ => if_neg fun h => by simpa using (kcell_iff.mp h).2), Finset.sum_comm]
  simp only [kcell_iff, and_true, ptn_iff _ c, Finset.sum_ite_eq', Finset.mem_univ, if_true]
  rfl

/-- a landing cell is paid by its exchange's partner. -/
theorem launch_rcv (c : Dev nD) (ch : Fin 2) (e : Fin 12) : ∑ d : Dev nD, owedSig 0 d (kcell (c, kRcv ch e)) () = N := by
  simp only [owed_apply, Finset.sum_add_distrib]
  rw [Finset.sum_eq_zero (s := Finset.univ) (f := fun d : Dev nD => ∑ k : Fin 4, if kcell (c, kRcv ch e) = kcell (ptn k d, kBar) then 1 else 0)
      (fun d _ => Finset.sum_eq_zero fun q _ => if_neg fun h => by simpa using (kcell_iff.mp h).2), Finset.sum_comm, Nat.add_zero,
    Finset.sum_eq_single (pos ch e)]
  · rw [chOf_pos, exOf_pos]
    simp only [kcell_iff, and_true, ptn_iff _ c, Finset.sum_ite_eq', Finset.mem_univ, if_true]
  · intro q hq hne
    refine Finset.sum_eq_zero fun d _ => if_neg fun h => hne ?_
    have h2 := (kcell_iff.mp h).2
    simp only [Sum.inr.injEq, Sum.inl.injEq, Prod.mk.injEq] at h2
    have := (Finset.mem_Ico.mp hq).2
    rw [h2.1, h2.2]; unfold pos chOf exOf; dsimp; omega
  · intro h
    exact absurd (Finset.mem_Ico.mpr ⟨Nat.zero_le _, by unfold pos; omega⟩) h

theorem launch_tally (g : GSem nD τ sig) (n : ℕ) (h : ∑ d : Dev nD, owedSig 0 d g () = n) :
    tallyOn g (launchCredit (Pipeline.owing (owedSig 0)) 0 g) = (tallyAt g () n : CellTallies nD τ sig Unit) := by
  unfold tallyAt; refine congrArg _ (Finsupp.ext fun u => ?_); cases u
  rw [Pipeline.launchCredit_owing, Finsupp.single_eq_same, h]

/-- The cells that are paid by others. -/
def paid : Unit ⊕ (Fin 2 × Fin 12) → Ck
  | .inl _ => kBar
  | .inr i => kRcv i.1 i.2

theorem paid_injective : Function.Injective fun i => csem (paid i) := by
  rintro (⟨⟩ | ⟨a, b⟩) (⟨⟩ | ⟨a', b'⟩) h
  · rfl
  · exact absurd (csem_injective h) (by simp [paid])
  · exact absurd (csem_injective h) (by simp [paid])
  · have := csem_injective h
    simp only [paid, Sum.inr.injEq, Sum.inl.injEq, Prod.mk.injEq] at this
    rw [this.1, this.2]

theorem creds (c : Dev nD) :
    (Pipeline.launchCred (owedSig 0) c : sProp 𝕄) ⊢ iprop(cred (tallyAt (kcell (c, kBar)) () 4)
      ∗ bigSep Finset.univ fun i : Fin 2 × Fin 12 => cred (tallyAt (kcell (c, kRcv i.1 i.2)) () N)) := by
  have h : (bigSep (Finset.univ.map ⟨fun i => csem (paid i), paid_injective⟩) fun sm : SemLoc sig =>
        (cred (tallyOn ((c : Thread nD τ), sm) (launchCredit (Pipeline.owing (owedSig 0)) 0 ((c : Thread nD τ), sm))) : sProp 𝕄))
      = iprop(cred (tallyAt (kcell (c, kBar)) () 4)
      ∗ bigSep Finset.univ fun i : Fin 2 × Fin 12 => cred (tallyAt (kcell (c, kRcv i.1 i.2)) () N)) := by
    rw [bigSep_map, bigSep_univ_sum, Finset.univ_unique, bigSep_singleton]
    refine congrArg₂ (fun a b : sProp 𝕄 => iprop(a ∗ b)) (congrArg cred (launch_tally _ 4 (launch_bar c))) ?_
    exact bigSep_congr fun i _ => congrArg cred (launch_tally _ N (launch_rcv c i.1 i.2))
  unfold Pipeline.launchCred
  rw [← h]
  exact bigSep_subset (Finset.subset_univ _)

end Cert.KernelIdeal.Hyper

end
-- ==== Proof.Run.lean ====
module

public import proofs.«01_k».proof.Proof.Start
public import proofs.«01_k».proof.Proof.Gen.KernelIdeal.Points

/-! # One device's run

The kernel's inputs as memory holds them, what a device owns when its body begins, and the body's run from there: it
leaves `Inputs.out` of the inputs in the result's staging buffer. -/

@[expose] public section

set_option maxRecDepth 65536

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The inputs, from memory -/

section Inp
variable (m : (ℓ : Loc nD τ sig) → Buf (Elt F) ℓ)

/-- The activations as they are staged. -/
def xstg (c : Dev nD) : (cc0_stg0_0 : Ref sig .tc).ty.Contents (Elt F) :=
  (win0_0.blk (0 : Fin 1)).view.read (Elt F) (m ((c : Thread nD τ).loc main_arg0))

def waOf : Fin 3 → Dev nD → FVec F S512x1024 .f32
  | 0 => fun c => m ((c : Thread nD τ).loc main_arg1)
  | 1 => fun c => m ((c : Thread nD τ).loc main_arg2)
  | 2 => fun c => m ((c : Thread nD τ).loc main_arg3)

def wbOf : Fin 3 → Dev nD → FVec F S1024x512 .f32
  | 0 => fun c => m ((c : Thread nD τ).loc main_arg4)
  | 1 => fun c => m ((c : Thread nD τ).loc main_arg5)
  | 2 => fun c => m ((c : Thread nD τ).loc main_arg6)

/-- The kernel's inputs: what the arguments hold. -/
def inp : Inputs F := ⟨xstg m, waOf m, wbOf m⟩

/-- The weights' arrays, unchanged. -/
def args (c : Dev nD) : sProp 𝕄 :=
  iprop((bigSep Finset.univ fun l : Fin 3 => has c (winA l) fullShare (waOf m l c))
    ∗ bigSep Finset.univ fun l : Fin 3 => has c (woutA l) fullShare (wbOf m l c))

/-- The buffers that hold them. -/
def argRef : Fin 3 ⊕ Fin 3 → Ref sig .tc
  | .inl 0 => main_arg1
  | .inl 1 => main_arg2
  | .inl 2 => main_arg3
  | .inr 0 => main_arg4
  | .inr 1 => main_arg5
  | .inr 2 => main_arg6

theorem args_eq (c : Dev nD) : args m c
    = (bigSep Finset.univ fun i : Fin 3 ⊕ Fin 3 =>
      (((c : Thread nD τ).loc (argRef i)) ↦{fullShare} m ((c : Thread nD τ).loc (argRef i)) : sProp 𝕄)) := by
  rw [bigSep_univ_sum]
  unfold args
  refine congrArg₂ (fun a b : sProp 𝕄 => iprop(a ∗ b)) (bigSep_congr fun l _ => ?_) (bigSep_congr fun l _ => ?_) <;>
    fin_cases l <;> exact owns_whole ..

theorem rest_args (c : Dev nD) :
    (Pipeline.unscopedRest (Ix := Unit) (Name := ℕ) (U := UU) (Lvl := ℕ) spec0 c (fun b => m ((c : Thread nD τ).loc b)) : sProp 𝕄) ⊢ args m c := by
  rw [unscopedRest0_eq, args_eq, bigSep_univ_sum, bigSep_three, bigSep_three]
  refine BIBase.Entails.trans ?_ (BIBase.Entails.rfl : iprop(((((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg3) ↦{fullShare} m ((c : Thread nD τ).loc main_arg3)))
    ∗ (((c : Thread nD τ).loc main_arg4) ↦{fullShare} m ((c : Thread nD τ).loc main_arg4))
    ∗ (((c : Thread nD τ).loc main_arg5) ↦{fullShare} m ((c : Thread nD τ).loc main_arg5))
    ∗ (((c : Thread nD τ).loc main_arg6) ↦{fullShare} m ((c : Thread nD τ).loc main_arg6))) ⊢ (_ : sProp 𝕄))
  iintro ⟨H1, H2, H3, H4, H5, H6⟩
  isplitl [H1 H2 H3]
  · isplitl [H1]; · iexact H1
    isplitl [H2] <;> iassumption
  isplitl [H4]; · iexact H4
  isplitl [H5] <;> iassumption

end Inp

/-! ## Into the body, and out of it -/

theorem pos_eq (c : Dev nD) : (bigSep Finset.univ fun k : Ck => atPos ER (kcell (c, k)) 0 ∅ 0 : sProp 𝕄)
    = iprop(atPos ER (kcell (c, kBar)) 0 ∅ 0
    ∗ (bigSep Finset.univ fun i : Fin 2 × Fin 12 => atPos ER (kcell (c, kSnd i.1 i.2)) 0 ∅ 0)
    ∗ (bigSep Finset.univ fun i : Fin 2 × Fin 12 => atPos ER (kcell (c, kRcv i.1 i.2)) 0 ∅ 0)
    ∗ (bigSep Finset.univ fun l : Fin 3 => atPos ER (kcell (c, kIn l)) 0 ∅ 0)
    ∗ (bigSep Finset.univ fun l : Fin 3 => atPos ER (kcell (c, kOut l)) 0 ∅ 0)) := by
  rw [bigSep_univ_sum, bigSep_univ_sum, bigSep_univ_sum, bigSep_univ_sum, Finset.univ_unique, bigSep_singleton]
  rfl

theorem fam_toks (c : Dev nD) : fam (fun ch e => toks (F := F) ch e c)
    = iprop((bigSep Finset.univ fun i : Fin 2 × Fin 12 => dutyTok ER (kcell (c, kSnd i.1 i.2)) 0 0)
    ∗ (bigSep Finset.univ fun i : Fin 2 × Fin 12 => dutyTok ER (dstCell i.1 i.2 c) 0 0)
    ∗ (bigSep Finset.univ fun i : Fin 2 × Fin 12 => cred (tallyAt (kcell (c, kRcv i.1 i.2)) () N))
    ∗ (bigSep Finset.univ fun i : Fin 2 × Fin 12 => atPos ER (kcell (c, kRcv i.1 i.2)) 0 ∅ 0)
    ∗ (bigSep Finset.univ fun i : Fin 2 × Fin 12 => atPos ER (kcell (c, kSnd i.1 i.2)) 0 ∅ 0)) := by
  unfold toks
  rw [fam_slots]
  simp only [bigSep_sep']

theorem fam_over (c : Dev nD) : fam (fun ch e => over (F := F) ch e c)
    = iprop((fam fun ch e => holds (F := F) c (sSl ch e)) ∗ (fam fun ch e => holds (F := F) c (rSl ch e))
    ∗ (bigSep Finset.univ fun i : Fin 2 × Fin 12 => semVal (kcell (c, kRcv i.1 i.2)) 0)
    ∗ (bigSep Finset.univ fun i : Fin 2 × Fin 12 => semVal (kcell (c, kSnd i.1 i.2)) 0)) := by
  unfold over
  simp only [fam_slots]
  simp only [bigSep_sep']

theorem ownSems0_eq (c : Dev nD) :
    (Pipeline.ownSems0 (Ix := Unit) (Name := ℕ) (U := UU) (Lvl := ℕ) (Val := Elt F) (τ := τ) osem c : sProp 𝕄)
    = iprop((bigSep Finset.univ fun i : Fin 2 × Fin 12 => semVal (kcell (c, kSnd i.1 i.2)) 0)
    ∗ (bigSep Finset.univ fun i : Fin 2 × Fin 12 => semVal (kcell (c, kRcv i.1 i.2)) 0)
    ∗ (bigSep Finset.univ fun l : Fin 3 => semVal (kcell (c, kIn l)) 0)
    ∗ (bigSep Finset.univ fun l : Fin 3 => semVal (kcell (c, kOut l)) 0)) := by
  unfold Pipeline.ownSems0
  rw [bigSep_univ_sum, bigSep_univ_sum, bigSep_univ_sum]
  rfl

variable (m : (ℓ : Loc nD τ sig) → Buf (Elt F) ℓ) (ρ : Dev nD → PrngReg)

/-- What a device holds before the body, beside its scratch. -/
def start (c : Dev nD) : sProp 𝕄 :=
  iprop(G' (inp m) c ∗ cred (tallyAt (kcell (c, kBar)) () 4)
    ∗ (bigSep Finset.univ fun i : Fin 2 × Fin 12 => cred (tallyAt (kcell (c, kRcv i.1 i.2)) () N))
    ∗ levAts L lv ∗ args m c)

def Φ₀ (c : Dev nD) : sProp 𝕄 := iprop(start m c ∗ scratch (F := F) c)

/-- What it holds after: its scratch, every counter at zero, and the weights' arrays. -/
def Φ₁ (c : Dev nD) : sProp 𝕄 :=
  iprop(scratch (F := F) c ∗ Pipeline.ownSems0 (Ix := Unit) (Name := ℕ) (U := UU) (Lvl := ℕ) (Val := Elt F) (τ := τ) osem c
    ∗ semVal (kcell (c, kBar)) 0 ∗ args m c)

/-- The body, from the launch's state to its end. -/
theorem body_run (c : Dev nD) (f : (cc0_stg1_0 : Ref sig .tc).ty.Contents (Elt F))
    {Q : PUnit → sProp (MT nD τ sig Unit (Elt F) ℕ UU ℕ)} :
    iprop(Φ₀ m c ∗ (((c : Thread nD τ).loc cc0_stg0_0) ↦{fullShare} (inp m).x c) ∗ (((c : Thread nD τ).loc cc0_stg1_0) ↦{fullShare} f)
        ∗ owesW (F := F) c (owedSig 0 c))
      ⊢ iprop(((Φ₁ m c ∗ (((c : Thread nD τ).loc cc0_stg0_0) ↦{fullShare} (inp m).x c)
          ∗ (((c : Thread nD τ).loc cc0_stg1_0) ↦{fullShare} (inp m).out c) ∗ owesW (F := F) c 0) -∗ Q ⟨⟩) -∗ WP c body Q) := by
  unfold Φ₀ start G' linear scratch args payToks
  rw [pos_eq]
  iintro ⟨⟨⟨⟨%K, #Hrec, ⟨HpB, HpS, HpR, HpI, HpO⟩, HtB, HtS, HtD, HtI, HtO⟩, HcB, HcR, #Hlev, HA, HB⟩, Hs, Hr, Hi, Ho⟩, Hx, Hy, Hw⟩ Hk
  iapply (wp_body (inp m) K c f) $$ [HpB HpS HpR HpI HpO HtB HtS HtD HtI HtO HcB HcR HA HB Hs Hr Hi Ho Hx Hy Hw]
  · isplitr; · iexact Hrec
    isplitr; · iexact Hlev
    isplitl [HcB]; · iexact HcB
    isplitl [HpB]; · iexact HpB
    isplitl [HtB]; · iexact HtB
    isplitl [Hr]; · rw [landing_all]; iexact Hr
    isplitl [HtS HtD HcR HpR HpS]
    · rw [fam_toks]
      isplitl [HtS]; · iexact HtS
      isplitl [HtD]; · iexact HtD
      isplitl [HcR]; · iexact HcR
      isplitl [HpR]; · iexact HpR
      iexact HpS
    isplitl [Hs]; · iexact Hs
    isplitl [Hi HA HtI HpI]
    · unfold inIdle
      simp only [bigSep_sep']
      isplitl [Hi]; · iexact Hi
      isplitl [HA]; · iexact HA
      isplitl [HtI] <;> iassumption
    isplitl [Ho HB HtO HpO]
    · unfold outIdle
      simp only [bigSep_sep']
      isplitl [Ho]; · iexact Ho
      isplitl [HB]; · iexact HB
      isplitl [HtO] <;> iassumption
    isplitl [Hx]; · iexact Hx
    isplitl [Hy]; · iexact Hy
    iexact Hw
  rw [fam_over]
  unfold inDone outDone
  simp only [bigSep_sep']
  iintro ⟨⟨Hs, Hr, HzR, HzS⟩, ⟨Hi, HA, HzI⟩, ⟨Ho, HB, HzO⟩, HzB, Hx, Hy, Hw⟩
  iapply Hk
  isplitl [Hs Hr HzR HzS Hi HA HzI Ho HB HzO HzB]
  · unfold Φ₁ scratch args
    rw [ownSems0_eq]
    isplitl [Hs Hr Hi Ho]
    · isplitl [Hs]; · iexact Hs
      isplitl [Hr]; · iexact Hr
      isplitl [Hi]
      · iapply (show (bigSep Finset.univ fun l : Fin 3 => has c (wiSl l) fullShare ((inp m).wi l c))
          ⊢ (bigSep Finset.univ fun l : Fin 3 => holds (F := F) c (wiSl l)) from bigSep_mono fun l _ =>
          (by iintro H; iexists _; iexact H : has c (wiSl l) fullShare ((inp m).wi l c) ⊢ holds (F := F) c (wiSl l)))
        iexact Hi
      · iapply (show (bigSep Finset.univ fun l : Fin 3 => has c (woSl l) fullShare ((inp m).wo l c))
          ⊢ (bigSep Finset.univ fun l : Fin 3 => holds (F := F) c (woSl l)) from bigSep_mono fun l _ =>
          (by iintro H; iexists _; iexact H : has c (woSl l) fullShare ((inp m).wo l c) ⊢ holds (F := F) c (woSl l)))
        iexact Ho
    isplitl [HzS HzR HzI HzO]
    · isplitl [HzS]; · iexact HzS
      isplitl [HzR]; · iexact HzR
      isplitl [HzI] <;> iassumption
    isplitl [HzB]; · iexact HzB
    isplitl [HA]; · iexact HA
    iexact HB
  isplitl [Hx]; · iexact Hx
  isplitl [Hy]; · iexact Hy
  iexact Hw

end Cert.KernelIdeal.Hyper

end
-- ==== Proof.Main.lean ====
module

public import proofs.«01_k».proof.Proof.Run
public import Idealize.ShloMosaic.Lib.Pipeline.CollectiveSegs

/-! # The kernel's run

The run of the whole program at its sixteen devices, from any memory with all counters at zero: it ends, every counter is
at zero again, the arguments are unchanged, and each device's result array holds `Inputs.out` of the arguments. -/

@[expose] public section

set_option maxRecDepth 65536

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- The staged windows: the activations come in, the result goes out. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => (inp m).out c
  Φ t := match t with
    | ⟨0, _⟩ => Φ₀ m c
    | ⟨_ + 1, _⟩ => Φ₁ m c
  q _ := fullShare
  owed t := match t with
    | ⟨0, _⟩ => owedSig 0 c
    | ⟨_ + 1, _⟩ => 0

def t₀ : Fin cfg0.N := t0_0
theorem fin_N (t : Fin cfg0.N) : t = t₀ := fin_N0 t

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

/-- The body meets the pipeline's demand on it. -/
theorem body_obligation (c : Dev nD) : BodyObligation (dats (F := F) m ρ 0 c) (defs₀ (F := F)) 𝒱₀ () Set.univ := fun t => by
  rw [fin_N t]
  rw [bigSep_W, bigSep_W]
  refine (?_ : iprop(Φ₀ m c ∗ (dats m ρ 0 c).owesAt () t₀.castSucc
      ∗ (∃ d, owns (c : Thread nD τ) (Memref.whole cc0_stg0_0) fullShare ((dats m ρ 0 c).before (0 : Fin 2) t₀ d))
      ∗ (∃ d, owns (c : Thread nD τ) (Memref.whole cc0_stg1_0) fullShare ((dats m ρ 0 c).before (1 : Fin 2) t₀ d)))
    ⊢ WP c (bodyAt0 t₀) fun _ => iprop(Φ₁ m c ∗ (dats m ρ 0 c).owesAt () t₀.succ
      ∗ owns (c : Thread nD τ) (Memref.whole cc0_stg0_0) fullShare (xstg m c)
      ∗ owns (c : Thread nD τ) (Memref.whole cc0_stg1_0) fullShare ((inp m).out c)))
  rw [body_eq]
  simp only [owns_whole]
  iintro ⟨HΦ, Ho, ⟨%d0, Hx⟩, ⟨%d1, Hy⟩⟩
  have hx : (dats m ρ 0 c).before (0 : Fin 2) t₀ d0 = (inp m).x c := by unfold Dat.before; rw [if_pos (fetch_0 t₀)]; rfl
  rw [hx]
  unfold Dat.owesAt Pipeline.owesWithin
  icases Ho with ⟨%W, %hW, HO⟩
  rw [show (dats m ρ 0 c).owed t₀.castSucc = owedSig 0 c from rfl]
  iapply (body_run m c ((dats m ρ 0 c).before (1 : Fin 2) t₀ d1)) $$ [HΦ HO Hx Hy]
  · isplitl [HΦ]; · iexact HΦ
    isplitl [Hx]; · iexact Hx
    isplitl [Hy]; · iexact Hy
    unfold owesW; iexists W; iexact HO
  unfold owesW
  iintro ⟨HΦ, Hx, Hy, ⟨%W', HO⟩⟩
  isplitl [HΦ]; · iexact HΦ
  isplitl [HO]
  · iexists W'
    isplitr; · ipureintro; exact fun _ _ => Or.inl trivial
    iexact HO
  isplitl [Hx]; · iexact Hx
  iexact Hy

/-! ## The launch's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (owedSig 0) c ∗ prngReg c (ρ c) ∗ G' (inp m) c)
      ⊢ |={Set.univ}=> iprop(start m c ∗ emp) := by
  rw [Pipeline.unscopedRestP_none]
  iintro ⟨HR, Hlev, Hcr, -, HG⟩
  ihave Hc := (creds (F := F) c) $$ Hcr
  icases Hc with ⟨H1, HN⟩
  ihave HA := (rest_args m c) $$ HR
  imodintro
  unfold start
  isplitl
  · isplitl [HG]; · iexact HG
    isplitl [H1]; · iexact H1
    isplitl [HN]; · iexact HN
    isplitl [Hlev]; · iexact Hlev
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_eq (F := F) c).1
  iexact Hr

theorem phi1_exit (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl, unscopedSems0_eq]
  unfold Φ₁
  iintro ⟨Hr, HO, HB, HA⟩
  isplitl [HB HA]; · isplitl [HB] <;> iassumption
  isplitl [HO]; · iexact HO
  iapply (scratch_eq (F := F) c).2
  iexact Hr

theorem kind_stage : ∀ (w : Fin 2) (s : Fin (spec0 w).nbuf) (k : Ck), csem k ≠ .dma ((spec0 w).sem s) := by decide

theorem lv_stage (c : Dev nD) (w : Fin 2) (s : Fin (spec0 w).nbuf) : lv ((c : Thread nD τ), .dma ((spec0 w).sem s)) () = 0 := by
  unfold lv kindOf Function.partialInv
  rw [dif_neg fun ⟨k, hk⟩ => kind_stage w s k hk]; rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_sig c _ 0 (lv_stage c w s)
    · rw [show (dats m ρ 0 c).owed ⟨_ + 1, ht⟩ = 0 from rfl, MayWait_zero]
      iintro -; iempintro

/-! ## The run -/

/-- The windows' arrays after the run. -/
def finalA (c : Dev nD) (w : Fin cfg0.W) : Buf (Elt F) ((cfg0.win w).arr.view.loc (c : Thread nD τ)) := (dats m ρ 0 c).arrAt w cfg0.N

/-- Every weakly fair run ends; the windows' arrays are at the computed contents, the weights' are unchanged, and every
counter is at zero. -/
theorem run_main : θ_run defs (onTc (τ := τ) (main (F := F))) (s₀ m ρ) (fun r =>
    (∀ c : Dev nD, (∀ w : Fin cfg0.W, r.2.mem ((cfg0.win w).arr.view.loc (c : Thread nD τ)) = finalA m ρ c w)
      ∧ ∀ i, r.2.mem ((c : Thread nD τ).loc (argRef i)) = m ((c : Thread nD τ).loc (argRef i)))
    ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owedSig 0) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_cells (inp m)) $$ HX with HG
      imodintro
      isplitl [HP] <;> iassumption)
    (hglob := glob (inp m))
    (hA := fun _ _ => rfl) (hpf := fun _ k => k.elim0)
    (X := start m) (Y := fun c => iprop(unscopedSems0 c ∗ args m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ ∀ i, s.mem ((c : Thread nD τ).loc (argRef i)) = m ((c : Thread nD τ).loc (argRef i)))
    (hY := fun c s' => by
      iintro ⟨⟨Hu, HA⟩, -, HSI⟩
      ihave HA := (Entails.of_eq (args_eq m c)) $$ HA
      ihave H := (pointsTo_read_all Finset.univ (fun i => (c : Thread nD τ).loc (argRef i))
        (fun i => m ((c : Thread nD τ).loc (argRef i))) s') $$ [HA HSI]
      · isplitl [HA] <;> iassumption
      icases H with ⟨%hA, HSI⟩
      imod (Pipeline.unscopedSems0_read (X := unscopedSems0 c) (c := c) fupd_intro s') $$ [Hu HSI] with ⟨%hS, HSI⟩
      · isplitl [Hu] <;> iassumption
      imodintro
      isplitr; · ipureintro; exact ⟨hS, fun i => hA i (Finset.mem_univ i)⟩
      iexact HSI)
    (hQ := fun _ h hs => ⟨fun c => ⟨(h c).1, (h c).2.2.2⟩, sem_eq_zero hs fun c => (h c).2.2.1⟩)

end Cert.KernelIdeal.Hyper

end
-- ==== Proof.Values.lean ====
module

public import proofs.«01_k».proof.Proof.Main

/-! # What the run leaves

The run of the kernel stated over its own arrays: the result array of every device holds `Inputs.out` of the
arguments, the seven arguments are unchanged, and every counter is at zero. -/

@[expose] public section

set_option maxRecDepth 65536

noncomputable section

namespace Cert.KernelIdeal.Hyper

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The activations' block is the whole array. -/
theorem xstg_eq (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The activations' array ends as it began. -/
theorem finalA_x (c : Dev nD) : finalA m ρ c (0 : Fin 2) = m ((c : Thread nD τ).loc main_arg0) :=
  (dats m ρ 0 c).arrAt_in (0 : Fin 2) rfl _

/-- The result's array ends holding the kernel's result. -/
theorem finalA_out (c : Dev nD) : finalA m ρ c (1 : Fin 2) = (inp m).out c := by
  have h : (win0_1.blk (0 : Fin 1)).view.read (Elt F) (finalA m ρ c (1 : Fin 2)) = (inp m).out c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from flush0_1 _, if_pos rfl]
    exact View.read_write_univ _ _
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) _).symm.trans h

/-- The kernel's run: it ends, with every counter at zero, the arguments unchanged, and the result of the arguments on
    every device. -/
theorem run_value : θ_run defs (onTc (τ := τ) (main (F := F))) (s₀ m ρ) (fun r =>
    (∀ c : Dev nD, r.2.mem ((c.tc : Thread nD τ).loc main_v1) = (inp m).out c
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)))
    ∧ r.2.sem = fun _ => 0) :=
  (θ_run defs _ _).mono (fun r h => ⟨fun c =>
    ⟨((h.1 c).1 (1 : Fin 2)).trans (finalA_out m ρ c),
      ((h.1 c).1 (0 : Fin 2)).trans (finalA_x m ρ c),
      (h.1 c).2 (.inl 0), (h.1 c).2 (.inl 1), (h.1 c).2 (.inl 2),
      (h.1 c).2 (.inr 0), (h.1 c).2 (.inr 1), (h.1 c).2 (.inr 2)⟩, h.2⟩) (run_main m ρ)

end Cert.KernelIdeal.Hyper

end
-- ==== Proof.Frames.lean ====
module

public import proofs.«01_k».proof.Defs
public import proofs.«01_k».proof.Proof.Values
public import proofs.«01_k».proof.Proof.Gen.Kernel
public import proofs.«01_k».proof.Proof.Gen.ReferenceIdeal.Run
public import Idealize.ShloMosaic.Lib.Quiescent

/-! # The frames

Each program runs to its end from any memory with all counters at zero, leaves its arguments as they were, and
leaves every counter at zero. -/

@[expose] public section

set_option maxRecDepth 65536

noncomputable section

namespace Cert.Proof

open Idealize.ShloMosaic Idealize.SL.Sem

/-- The kernel's body is the idealized kernel's. -/
theorem bodies_eq {F : FTy → Type} [FloatOps F] : Cert.Kernel.defs₀ (F := F) = Cert.KernelIdeal.defs₀ (F := F) := by
  refine congrArg Defs.onTc (funext fun l => funext fun a => ?_)
  match l, a with
  | ⟨0, _⟩, (t, s) => rfl

/-- So is everything a run of it calls. -/
theorem defs_eq {F : FTy → Type} [FloatOps F] : Cert.Kernel.defs (F := F) = Cert.KernelIdeal.defs (F := F) :=
  congrArg (Pipeline.defs (Cert.KernelIdeal.pcfgs (F := F))) bodies_eq

/-- The kernel on machine floats. Its text is the idealized kernel's, so that run is its run. -/
theorem frame_kernel : Cert.quiescent_Kernel := fun m ρ _ => by
  rw [defs_eq]
  exact (θ_run Cert.KernelIdeal.defs _ _).mono (fun _ h => ⟨fun c => (h.1 c).2, h.2⟩)
    (Cert.KernelIdeal.Hyper.run_value (F := Bits) m ρ)

/-- The kernel on extended reals. -/
theorem frame_kernelIdeal : Cert.quiescent_KernelIdeal := fun m ρ _ =>
  (θ_run Cert.KernelIdeal.defs _ _).mono (fun _ h => ⟨fun c => (h.1 c).2, h.2⟩)
    (Cert.KernelIdeal.Hyper.run_value (F := Ideal) m ρ)

/-- The reference on extended reals; it has no counters. -/
theorem frame_referenceIdeal : Cert.quiescent_ReferenceIdeal := fun m ρ _ =>
  (θ_run Cert.ReferenceIdeal.defs _ _).mono (fun r h => ⟨fun c => (h c).2, sem_eq_zero_of_no_sems (by decide) _⟩)
    (Cert.ReferenceIdeal.Value.run (F := Ideal) m ρ)

end Cert.Proof

end
-- ==== Proof.Sums.lean ====
module

public import proofs.«01_k».proof.Proof.Contents
public import Idealize.ShloMosaic.Lib.Pipeline.Value
public import Idealize.ShloMosaic.Lib.ValueIdx
public import Idealize.ShloMosaic.PureOps.Ideal.Laws

/-! # What one device computes, in extended reals

Four exchanges of sums leave every device the sum over all sixteen. Each payload of the kernel, read at an index, is a
sum of products of its operands. -/

@[expose] public section

set_option maxRecDepth 65536

noncomputable section

namespace Cert.KernelIdeal.Hyper

open Cert.KernelIdeal Cert.KernelIdeal.Gen
open Idealize.ShloMosaic Idealize.ShloMosaic.ValueIdx
open scoped BigOperators

/-! ## The exchanges -/

/-- One number per device, after `k` exchanges: each adds the partner's. -/
def chR (f : Dev nD → EReal) : Nat → Dev nD → EReal
  | 0, c => f c
  | k + 1, c => chR f k c + chR f k (ptn (Fin.ofNat 4 k) c)

/-- Device `c` with a chosen set of the four exchanges' bits flipped. -/
def flips (c : Dev nD) (x : Fin 2 × Fin 2 × Fin 2 × Fin 2) : Dev nD :=
  let go (b : Fin 2) (k : Fin 4) (d : Dev nD) : Dev nD := if b = 0 then d else ptn k d
  go x.1 0 (go x.2.1 1 (go x.2.2.1 2 (go x.2.2.2 3 c)))

/-- The sets of bits reach every device once. -/
theorem flips_bijective : ∀ c, Function.Bijective (flips c) := by decide +kernel

/-- After all four exchanges each device has the sum over all. -/
theorem chR_four (f : Dev nD → EReal) (c : Dev nD) : chR f 4 c = ∑ d, f d := by
  rw [← Function.Bijective.sum_comp (flips_bijective c) f]
  simp only [Fintype.sum_prod_type, Fin.sum_univ_two]
  have h1 : (1 : Fin 2) ≠ 0 := by decide
  simp only [flips, if_true, if_neg h1, chR]
  rw [show Fin.ofNat 4 0 = 0 from rfl, show Fin.ofNat 4 1 = 1 from rfl, show Fin.ofNat 4 2 = 2 from rfl,
    show Fin.ofNat 4 3 = 3 from rfl]
  abel

/-- A slot's contents as a matrix. -/
abbrev drop (v : FVec Ideal S1x64x512 .bf16) : S64x512.Idx → EReal := shapeCast S64x512 v shapeCasts_S1x64x512_S64x512

/-- A chain read at an index exchanges the numbers there. -/
theorem drop_chain (p : Dev nD → FVec Ideal S1x64x512 .bf16) (k : Nat) (c : Dev nD) (i : S64x512.Idx) :
    drop (chain p k c) i = chR (fun d => drop (p d) i) k c := by
  induction k generalizing c with
  | zero => rfl
  | succ k ih =>
    show drop (k0_pay7 _ _) i = _ + _
    rw [← ih, ← ih]
    unfold k0_pay7
    exact congrFun (shapeCast_shapeCast _ _ _) i

/-- A layer's last two slots add up to the sum over all the devices. -/
theorem drop_sum (p : Dev nD → FVec Ideal S1x64x512 .bf16) (c : Dev nD) (i : S64x512.Idx) :
    drop (chain p 3 c) i + drop (chain p 3 (ptn 3 c)) i = ∑ d, drop (p d) i := by
  rw [← chR_four _ c, drop_chain, drop_chain]; rfl

/-! ## The payloads -/

theorem dot_lhs0 (i : S64x512.Idx) (q : dot_S64x512_S512x512_S64x512_1_0_0_1_n_n.contr.Idx) :
    (dot_S64x512_S512x512_S64x512_1_0_0_1_n_n.lhsIdx i q 0).val = (i 0).val := by
  unfold DotDims.lhsIdx
  rw [dif_neg (show ¬(0 : Fin S64x512.rank) ∈ dot_S64x512_S512x512_S64x512_1_0_0_1_n_n.lhsBatch by decide),
    dif_pos (show (0 : Fin S64x512.rank) ∈ dot_S64x512_S512x512_S64x512_1_0_0_1_n_n.lhsNonContracting by decide)]
  rfl

theorem dot_rhs1 (i : S64x512.Idx) (q : dot_S64x512_S512x512_S64x512_1_0_0_1_n_n.contr.Idx) :
    (dot_S64x512_S512x512_S64x512_1_0_0_1_n_n.rhsIdx i q 1).val = (i 1).val := by
  unfold DotDims.rhsIdx
  rw [dif_neg (show ¬(1 : Fin S512x512.rank) ∈ dot_S64x512_S512x512_S64x512_1_0_0_1_n_n.rhsBatch by decide),
    dif_pos (show (1 : Fin S512x512.rank) ∈ dot_S64x512_S512x512_S64x512_1_0_0_1_n_n.rhsNonContracting by decide)]
  rfl

/-- The kernel's product at an index: the sum over the 512 inner positions. -/
theorem dot_apply (A : FVec Ideal S64x512 .bf16) (B : FVec Ideal S512x512 .bf16) (r : Fin 64) (s : Fin 512) :
    matmul dot_S64x512_S512x512_S64x512_1_0_0_1_n_n none A B (constant S64x512 .f32 0x00000000#32) (ix2 r s)
      = ∑ k : Fin 512, A (ix2 r k) * B (ix2 k s) := by
  simp only [matmul]
  rw [Ideal.matmul_constant_zero_apply,
    ← Equiv.sum_comp (contrEquiv1 dot_S64x512_S512x512_S64x512_1_0_0_1_n_n 512 rfl rfl).symm]
  refine Finset.sum_congr rfl fun k _ => ?_
  have hk := contrEquiv1_symm_val dot_S64x512_S512x512_S64x512_1_0_0_1_n_n 512 rfl rfl k
  congr 2
  · exact Shape.idx_ext₂ (dot_lhs0 _ _) ((dot_S64x512_S512x512_S64x512_1_0_0_1_n_n.lhsIdx_val_of_single rfl _ _).trans hk)
  · exact Shape.idx_ext₂ ((dot_S64x512_S512x512_S64x512_1_0_0_1_n_n.rhsIdx_val_of_single rfl _ _).trans hk) (dot_rhs1 _ _)

/-- Position `s` of half `h` of an axis of 1024. -/
def half (h : Fin 2) (s : Fin 512) : Fin 1024 := ⟨512 * h.val + s.val, by omega⟩

/-- A partial product at an index, the weights read as the device's block. -/
theorem part_apply (P : Inputs Ideal) (l : Fin 3) (d : Dev nD) (h : Fin 2) (xb : FVec Ideal S64x512 .bf16) (r : Fin 64)
    (s : Fin 512) : drop (part h xb (P.wi l d)) (ix2 r s) = ∑ k : Fin 512, xb (ix2 r k) * P.wa l d (ix2 k (half h s)) := by
  have hw : (k0_pay26 (F := Ideal) (P.wi l d) : S512x1024.Idx → EReal) = P.wa l d :=
    funext fun i => congrArg (P.wa l d) (Equiv.symm_apply_apply _ _)
  have go (off : Fin 2 → Nat) (hs : S512x1024.Slices off S512x512) (hoff : off = ![0, 512 * h.val]) :
      matmul dot_S64x512_S512x512_S64x512_1_0_0_1_n_n none xb (extractStridedSlice S512x512 off (k0_pay26 (F := Ideal) (P.wi l d)) hs)
          (constant S64x512 .f32 0x00000000#32) (ix2 r s)
        = ∑ k : Fin 512, xb (ix2 r k) * P.wa l d (ix2 k (half h s)) := by
    rw [dot_apply]
    refine Finset.sum_congr rfl fun k _ => congrArg _ ?_
    refine (extractStridedSlice_apply _ _ hs _ (ix2 k (half h s)) fun a => ?_).trans (congrFun hw _)
    subst hoff
    match a with
    | ⟨0, _⟩ => show k.val = 0 + k.val; omega
    | ⟨1, _⟩ => rfl
  match h with
  | 0 =>
    show drop (k0_pay27 _ _) _ = _
    unfold k0_pay27
    refine Eq.trans (congrFun (shapeCast_shapeCast _ _ _) _) ?_
    exact go _ _ rfl
  | 1 =>
    show drop (k0_pay28 _ _) _ = _
    unfold k0_pay28
    refine Eq.trans (congrFun (shapeCast_shapeCast _ _ _) _) ?_
    exact go _ _ rfl

theorem ofBits_zero_bf16 : Ideal.ofBits .bf16 0x0000#16 = 0 := by simp [Ideal.ofBits, Ideal.ieee]

/-- What a layer hands on, at an index: both halves of the hidden axis, rectified, times the weights. -/
theorem outV_apply (P : Inputs Ideal) (l : Fin 3) (c : Dev nD) (a b : Fin 2 → FVec Ideal S1x64x512 .bf16) (r : Fin 64) (s : Fin 512) :
    outV (F := Ideal) (P.wo l c, (a 0, b 0), (a 1, b 1)) (ix2 r s)
      = ∑ h : Fin 2, ∑ k : Fin 512, max (drop (a h) (ix2 r k) + drop (b h) (ix2 r k)) 0 * P.wb l c (ix2 (half h k) s) := by
  have hw : (k0_pay6 (F := Ideal) (P.wo l c) : S1024x512.Idx → EReal) = P.wb l c :=
    funext fun i => congrArg (P.wb l c) (Equiv.symm_apply_apply _ _)
  have go (h : Fin 2) (off : Fin 2 → Nat) (hs : S1024x512.Slices off S512x512) (hoff : off = ![512 * h.val, 0]) :
      matmul dot_S64x512_S512x512_S64x512_1_0_0_1_n_n none
          (maximumf (addf (drop (a h)) (drop (b h)) : FVec Ideal S64x512 .bf16) (broadcast S64x512 (Scalar.ofBits .bf16 0x0000#16)))
          (extractStridedSlice S512x512 off (k0_pay6 (F := Ideal) (P.wo l c)) hs) (constant S64x512 .f32 0x00000000#32) (ix2 r s)
        = ∑ k : Fin 512, max (drop (a h) (ix2 r k) + drop (b h) (ix2 r k)) 0 * P.wb l c (ix2 (half h k) s) := by
    rw [dot_apply]
    refine Finset.sum_congr rfl fun k _ => ?_
    refine congrArg₂ (· * ·) (congrArg (max _) ofBits_zero_bf16) ?_
    refine (extractStridedSlice_apply _ _ hs _ (ix2 (half h k) s) fun x => ?_).trans (congrFun hw _)
    subst hoff
    match x with
    | ⟨0, _⟩ => rfl
    | ⟨1, _⟩ => show s.val = 0 + s.val; omega
  rw [Fin.sum_univ_two]
  exact congrArg₂ (· + ·) (go 0 _ _ rfl) (go 1 _ _ rfl)

/-- The narrower format holds the same numbers. -/
theorem nextB_eq (r) : (nextB (F := Ideal) r : S64x512.Idx → EReal) = outV (F := Ideal) r := rfl

end Cert.KernelIdeal.Hyper

end
-- ==== Proof.Layers.lean ====
module

public import proofs.«01_k».proof.Proof.Sums
public import proofs.«01_k».proof.Proof.Gen.ReferenceIdeal.Read
public import Idealize.ShloMosaic.Lib.Layout

/-! # The layers, whole and in blocks

A layer of the network on whole arrays: multiply, rectify, multiply. The reference is three of them. The kernel's
layer, on devices that hold the blocks of the whole arrays, gives each device its block of the layer's result. -/

@[expose] public section

set_option maxRecDepth 65536

noncomputable section

namespace Cert.KernelIdeal.Hyper

open Cert.KernelIdeal Cert.KernelIdeal.Gen
open Idealize.ShloMosaic Idealize.ShloMosaic.ValueIdx
open scoped BigOperators

/-- The whole arrays: the activations, and both weights of a layer. -/
abbrev WholeX : Type := (⟨2, ![64, 8192]⟩ : Shape).Idx → EReal
abbrev WholeA : Type := (⟨2, ![8192, 1024]⟩ : Shape).Idx → EReal
abbrev WholeB : Type := (⟨2, ![1024, 8192]⟩ : Shape).Idx → EReal

/-- One layer: the rectified product with the first weight, times the second. -/
def layer (X : WholeX) (W : WholeA) (U : WholeB) : WholeX := fun i =>
  ∑ j : Fin 1024, max (∑ k : Fin 8192, X (ix2 (i 0) k) * W (ix2 k j)) 0 * U (ix2 j (i 1))

/-- A sum over an axis is the sum over its blocks. -/
theorem sum_blocks {a b n : Nat} (h : a * b = n) (f : Fin n → EReal) (g : Fin a → Fin b → Fin n)
    (hg : ∀ x y, (g x y).val = b * x.val + y.val) : ∑ x, ∑ y, f (g x y) = ∑ i, f i := by
  subst h
  rw [← Fintype.sum_prod_type', ← Equiv.sum_comp finProdFinEquiv f]
  refine Fintype.sum_congr _ _ fun p => congrArg f (Fin.ext ?_)
  rw [hg]
  show _ = p.2.val + b * p.1.val
  omega

/-- Where position `k` of device `d`'s block lies on the long axis. -/
def onAxis (d : Fin 16) (k : Fin 512) : Fin 8192 := ⟨512 * d.val + k.val, by omega⟩

theorem block_cols (d : Fin 16) (X : WholeX) (r : Fin 64) (k : Fin 512) :
    Layout.block ⟨2, ![64, 512]⟩ ⟨2, ![64, 8192]⟩ 1 16 d X (by decide) (ix2 r k) = X (ix2 r (onAxis d k)) :=
  congrArg X (Shape.idx_ext₂ rfl (congrArg (· + k.val) (Nat.mul_comm d.val 512)))

theorem block_rows (d : Fin 16) (W : WholeA) (k : Fin 512) (j : Fin 1024) :
    Layout.block ⟨2, ![512, 1024]⟩ ⟨2, ![8192, 1024]⟩ 0 16 d W (by decide) (ix2 k j) = W (ix2 (onAxis d k) j) :=
  congrArg W (Shape.idx_ext₂ (congrArg (· + k.val) (Nat.mul_comm d.val 512)) rfl)

theorem block_cols' (d : Fin 16) (U : WholeB) (j : Fin 1024) (k : Fin 512) :
    Layout.block ⟨2, ![1024, 512]⟩ ⟨2, ![1024, 8192]⟩ 1 16 d U (by decide) (ix2 j k) = U (ix2 j (onAxis d k)) :=
  congrArg U (Shape.idx_ext₂ rfl (congrArg (· + k.val) (Nat.mul_comm d.val 512)))

/-- The kernel's layer on the blocks of whole arrays is the block of the layer of the whole arrays. -/
theorem layer_block (P : Inputs Ideal) (l : Fin 3) (xb : Dev nD → FVec Ideal S64x512 .bf16) (X : WholeX) (W : WholeA) (U : WholeB)
    (hx : ∀ d : Dev nD, xb d = Layout.block ⟨2, ![64, 512]⟩ ⟨2, ![64, 8192]⟩ 1 16 d X (by decide))
    (hw : ∀ d : Dev nD, P.wa l d = Layout.block ⟨2, ![512, 1024]⟩ ⟨2, ![8192, 1024]⟩ 0 16 d W (by decide))
    (hu : ∀ d : Dev nD, P.wb l d = Layout.block ⟨2, ![1024, 512]⟩ ⟨2, ![1024, 8192]⟩ 1 16 d U (by decide)) (c : Dev nD) :
    outV (F := Ideal) (P.lay xb l c) = Layout.block ⟨2, ![64, 512]⟩ ⟨2, ![64, 8192]⟩ 1 16 c (layer X W U) (by decide) := by
  have hsum (h : Fin 2) (r : Fin 64) (k : Fin 512) :
      drop (chain (fun d => part h (xb d) (P.wi l d)) 3 c) (ix2 r k) + drop (chain (fun d => part h (xb d) (P.wi l d)) 3 (ptn 3 c)) (ix2 r k)
        = ∑ K : Fin 8192, X (ix2 r K) * W (ix2 K (half h k)) := by
    rw [drop_sum, ← sum_blocks (a := 16) (b := 512) rfl (fun K => X (ix2 r K) * W (ix2 K (half h k))) onAxis fun _ _ => rfl]
    refine Fintype.sum_congr _ _ fun d => ?_
    rw [part_apply]
    refine Fintype.sum_congr _ _ fun K => ?_
    rw [hx, hw]
    exact congrArg₂ (· * ·) (block_cols d X r K) (block_rows d W K (half h k))
  funext i
  obtain ⟨r, s, rfl⟩ : ∃ (r : Fin 64) (s : Fin 512), i = ix2 r s := ⟨i 0, i 1, eq_ix2 i⟩
  rw [block_cols]
  refine (outV_apply P l c (fun h => chain (fun d => part h (xb d) (P.wi l d)) 3 c)
    (fun h => chain (fun d => part h (xb d) (P.wi l d)) 3 (ptn 3 c)) r s).trans ?_
  show _ = ∑ j : Fin 1024, max (∑ k : Fin 8192, X (ix2 r k) * W (ix2 k j)) 0 * U (ix2 j (onAxis c s))
  rw [← sum_blocks (a := 2) (b := 512) rfl
    (fun j => max (∑ k : Fin 8192, X (ix2 r k) * W (ix2 k j)) 0 * U (ix2 j (onAxis c s))) half fun _ _ => rfl]
  refine Fintype.sum_congr _ _ fun h => Fintype.sum_congr _ _ fun k => ?_
  rw [hsum, hu]
  exact congrArg _ (block_cols' c U (half h k) s)

/-- The kernel's result on the blocks of whole arrays is the block of the three layers of the whole arrays. -/
theorem out_block (P : Inputs Ideal) (X : WholeX) (W : Fin 3 → WholeA) (U : Fin 3 → WholeB)
    (hx : ∀ d : Dev nD, P.x d = Layout.block ⟨2, ![64, 512]⟩ ⟨2, ![64, 8192]⟩ 1 16 d X (by decide))
    (hw : ∀ l, ∀ d : Dev nD, P.wa l d = Layout.block ⟨2, ![512, 1024]⟩ ⟨2, ![8192, 1024]⟩ 0 16 d (W l) (by decide))
    (hu : ∀ l, ∀ d : Dev nD, P.wb l d = Layout.block ⟨2, ![1024, 512]⟩ ⟨2, ![1024, 8192]⟩ 1 16 d (U l) (by decide)) (c : Dev nD) :
    P.out c = Layout.block ⟨2, ![64, 512]⟩ ⟨2, ![64, 8192]⟩ 1 16 c
      (layer (layer (layer X (W 0) (U 0)) (W 1) (U 1)) (W 2) (U 2)) (by decide) := by
  have h0 (d : Dev nD) : P.xb 0 d = Layout.block ⟨2, ![64, 512]⟩ ⟨2, ![64, 8192]⟩ 1 16 d X (by decide) :=
    Eq.trans (shapeCast_self (P.x d) _) (hx d)
  have h1 (d : Dev nD) := (nextB_eq (P.lay (P.xb 0) 0 d)).trans (layer_block P 0 _ X _ _ h0 (hw 0) (hu 0) d)
  have h2 (d : Dev nD) := (nextB_eq (P.lay (P.xb 1) 1 d)).trans (layer_block P 1 _ _ _ _ h1 (hw 1) (hu 1) d)
  exact layer_block P 2 _ _ _ _ h2 (hw 2) (hu 2) c

end Cert.KernelIdeal.Hyper

namespace Cert.ReferenceIdeal.Read

open Cert.ReferenceIdeal Cert.KernelIdeal.Hyper
open Idealize.ShloMosaic Idealize.ShloMosaic.ValueIdx
open scoped BigOperators

variable (x0 : WholeX) (x1 x2 x3 : WholeA) (x4 x5 x6 : WholeB)

/-- The reference's first two products are a layer; -/
theorem layer_one : val_main_v3 (F := Ideal) x0 x1 x4 = layer x0 x1 x4 := by
  funext i
  rw [val_main_v3_apply]
  refine Fintype.sum_congr _ _ fun j => ?_
  rw [val_main_v2_apply, val_main_v0_apply, val_main_v1_apply, val_main_cst_apply]
  refine congrArg₂ (· * ·) (congrArg₂ max (Fintype.sum_congr _ _ fun k => ?_) Ideal.ofBits_zero_f32) ?_
  · exact congrArg₂ (· * ·) (congrArg x0 (Shape.idx_ext₂ rfl rfl)) (congrArg x1 (Shape.idx_ext₂ rfl rfl))
  · exact congrArg x4 (Shape.idx_ext₂ rfl rfl)

/-- its six are three layers. -/
theorem layers_all : val_main_v11 (F := Ideal) x0 x1 x2 x3 x4 x5 x6 = layer (layer (layer x0 x1 x4) x2 x5) x3 x6 := by
  rw [← layer_one x0, ← layer_one (val_main_v3 (F := Ideal) x0 x1 x4),
    ← layer_one (val_main_v3 (F := Ideal) (val_main_v3 (F := Ideal) x0 x1 x4) x2 x5)]
  rfl

end Cert.ReferenceIdeal.Read

end
-- ==== Proof.Algebra.lean ====
module

public import proofs.«01_k».proof.Proof.Frames
public import proofs.«01_k».proof.Proof.Layers

/-! # The value claim

On devices whose arguments are the blocks of the reference's arguments, the kernel's result on each device is that
device's block of the reference's result. -/

@[expose] public section

set_option maxRecDepth 65536

noncomputable section

namespace Cert.Proof

open Idealize.ShloMosaic Idealize.SL.Sem
open Cert.KernelIdeal.Hyper (inp out_block run_value xstg_eq layer)

/-- The kernel and the reference compute the same function over the extended reals. -/
theorem algebraic : Cert.algebraic_KernelIdeal_ReferenceIdeal := by
  intro m ρ m' ρ' _ h
  let x (r : Ref Cert.ReferenceIdeal.sig .tc) := m' (((0 : Dev Cert.ReferenceIdeal.nD).tc : Thread _ Cert.ReferenceIdeal.τ).loc r)
  refine ⟨Cert.ReferenceIdeal.Read.val_main_v11 (x Cert.ReferenceIdeal.main_arg0) (x Cert.ReferenceIdeal.main_arg1)
    (x Cert.ReferenceIdeal.main_arg2) (x Cert.ReferenceIdeal.main_arg3) (x Cert.ReferenceIdeal.main_arg4)
    (x Cert.ReferenceIdeal.main_arg5) (x Cert.ReferenceIdeal.main_arg6), ?_, ?_⟩
  · refine (θ_run Cert.KernelIdeal.defs _ _).mono (fun r hr c => ⟨(hr.1 c).1.trans ?_, (hr.1 c).2⟩)
      (run_value (F := Ideal) m ρ)
    rw [Cert.ReferenceIdeal.Read.layers_all]
    exact out_block (inp m) (x Cert.ReferenceIdeal.main_arg0)
      (fun | 0 => x Cert.ReferenceIdeal.main_arg1 | 1 => x Cert.ReferenceIdeal.main_arg2 | 2 => x Cert.ReferenceIdeal.main_arg3)
      (fun | 0 => x Cert.ReferenceIdeal.main_arg4 | 1 => x Cert.ReferenceIdeal.main_arg5 | 2 => x Cert.ReferenceIdeal.main_arg6)
      (fun d => (xstg_eq m d).trans (h d).1)
      (fun | 0 => fun d => (h d).2.1 | 1 => fun d => (h d).2.2.1 | 2 => fun d => (h d).2.2.2.1)
      (fun | 0 => fun d => (h d).2.2.2.2.1 | 1 => fun d => (h d).2.2.2.2.2.1 | 2 => fun d => (h d).2.2.2.2.2.2) c
  · exact (θ_run Cert.ReferenceIdeal.defs _ _).mono (fun r hr => hr 0) (Cert.ReferenceIdeal.Value.run (F := Ideal) m' ρ')

end Cert.Proof

end
-- ==== Proof.lean ====
/- The certificate's proof: the claims of Defs.lean from the modules under Proof/. -/
module

public import proofs.«01_k».proof.Defs
public import proofs.«01_k».proof.Proof.Gen.Kernel
public import proofs.«01_k».proof.Proof.Gen.KernelIdeal
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Layers
public import proofs.«01_k».proof.Proof.Algebra

@[expose] public section

noncomputable section

namespace Cert.Proof

/-- Everything the certificate claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
